-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32768x64 : Shape := ⟨2, ![32768, 64]⟩
abbrev S81920x128 : Shape := ⟨2, ![81920, 128]⟩
abbrev S40 : Shape := ⟨1, ![40]⟩
abbrev S256x128 : Shape := ⟨2, ![256, 128]⟩
abbrev S32768x1 : Shape := ⟨2, ![32768, 1]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : IVec S256x128 32) (main_v12 : IVec S_ 1) (main_v14 : IVec S256x128 1) (main_v15 : IVec S256x128 32) : IVec S_ 1 :=
  let main_v16 : IVec S256x128 1 := cmpi .slt main_arg4 main_v15
  let main_v17 : IVec S256x128 1 := andi main_v14 main_v16
  let main_c_7 : IVec S_ 1 := constantI S_ 1 1#1
  let main_v18 : IVec S_ 1 := (fun x v => Host.reduce IntOp.andi x v reducesTo_S256x128_S_d0_1 h_S_) main_v17 main_c_7
  let main_v19 : IVec S_ 1 := andi main_v12 main_v18
  main_v19

def fn {F : FTy → Type} [FloatOps F] (main_arg0 : FVec F S32768x64 .f32) (main_arg1 : FVec F S81920x128 .f32) (main_arg2 : IVec S40 32) (main_arg3 : IVec S256x128 32) (main_arg4 : IVec S256x128 32) (main_arg5 : FVec F S32768x1 .f32) (main_arg6 : FVec F S32768x1 .f32) (main_arg7 : FVec F S8x64x256 .f32) (main_arg8 : FVec F S8x256 .f32) (main_arg9 : FVec F S8x256x64 .f32) (main_arg10 : FVec F S8x64 .f32) : IVec S_ 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 0#32
  let main_v6 : IVec S256x128 32 := broadcastInDim S256x128 ![] bcast_S_S256x128 main_c_2
  let main_v7 : IVec S256x128 1 := cmpi .sge main_arg3 main_v6
  let main_c_3 : IVec S_ 32 := constantI S_ 32 81920#32
  let main_v8 : IVec S256x128 32 := broadcastInDim S256x128 ![] bcast_S_S256x128 main_c_3
  let main_v9 : IVec S256x128 1 := cmpi .slt main_arg3 main_v8
  let main_v10 : IVec S256x128 1 := andi main_v7 main_v9
  let main_c_4 : IVec S_ 1 := constantI S_ 1 1#1
  let main_v11 : IVec S_ 1 := (fun x v => Host.reduce IntOp.andi x v reducesTo_S256x128_S_d0_1 h_S_) main_v10 main_c_4
  let main_v12 : IVec S_ 1 := andi main_v5 main_v11
  let main_c_5 : IVec S_ 32 := constantI S_ 32 0#32
  let main_v13 : IVec S256x128 32 := broadcastInDim S256x128 ![] bcast_S_S256x128 main_c_5
  let main_v14 : IVec S256x128 1 := cmpi .sge main_arg4 main_v13
  let main_c_6 : IVec S_ 32 := constantI S_ 32 81920#32
  let main_v15 : IVec S256x128 32 := broadcastInDim S256x128 ![] bcast_S_S256x128 main_c_6
  fn_part1 (F := F) main_arg4 main_v12 main_v14 main_v15
-- ==== Kernel.lean ====
abbrev S32768x64 : Shape := ⟨2, ![32768, 64]⟩
abbrev S81920x128 : Shape := ⟨2, ![81920, 128]⟩
abbrev S40 : Shape := ⟨1, ![40]⟩
abbrev S256x128 : Shape := ⟨2, ![256, 128]⟩
abbrev S32768x1 : Shape := ⟨2, ![32768, 1]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S8x1x256 : Shape := ⟨3, ![8, 1, 256]⟩
abbrev S8x1x64 : Shape := ⟨3, ![8, 1, 64]⟩
abbrev S2048x128 : Shape := ⟨2, ![2048, 128]⟩
abbrev S1x64x256 : Shape := ⟨3, ![1, 64, 256]⟩
abbrev S1 : Shape := ⟨1, ![1]⟩
abbrev S1x1x256 : Shape := ⟨3, ![1, 1, 256]⟩
abbrev S1x256x64 : Shape := ⟨3, ![1, 256, 64]⟩
abbrev S1x1x64 : Shape := ⟨3, ![1, 1, 64]⟩
abbrev S2048x64 : Shape := ⟨2, ![2048, 64]⟩
abbrev S64x256 : Shape := ⟨2, ![64, 256]⟩
abbrev S2048x256 : Shape := ⟨2, ![2048, 256]⟩
abbrev S1x256 : Shape := ⟨2, ![1, 256]⟩
abbrev S256x64 : Shape := ⟨2, ![256, 64]⟩
abbrev S1x64 : Shape := ⟨2, ![1, 64]⟩
abbrev S32768x128 : Shape := ⟨2, ![32768, 128]⟩
abbrev S512x128 : Shape := ⟨2, ![512, 128]⟩
abbrev S8x128 : Shape := ⟨2, ![8, 128]⟩
abbrev S_ : Shape := ⟨0, ![]⟩
abbrev S128x128 : Shape := ⟨2, ![128, 128]⟩
abbrev S1x128 : Shape := ⟨2, ![1, 128]⟩
abbrev S128 : Shape := ⟨1, ![128]⟩
abbrev S2048x1 : Shape := ⟨2, ![2048, 1]⟩

abbrev nBuf : Table → Nat
  | .hbm => 18
  | .local .tc .vmem => 24
  | .local .tc .smem => 1
  | .local .scVector .vmem => 3
  | _ => 0

abbrev bufTy : (tb : Table) → Fin (nBuf tb) → BufTy
  | .hbm, ⟨0, _⟩ => ⟨S32768x64, .f32⟩
  | .hbm, ⟨1, _⟩ => ⟨S81920x128, .f32⟩
  | .hbm, ⟨2, _⟩ => ⟨S256x128, .i32⟩
  | .hbm, ⟨3, _⟩ => ⟨S256x128, .i32⟩
  | .hbm, ⟨4, _⟩ => ⟨S32768x1, .f32⟩
  | .hbm, ⟨5, _⟩ => ⟨S32768x1, .f32⟩
  | .hbm, ⟨6, _⟩ => ⟨S8x64x256, .f32⟩
  | .hbm, ⟨7, _⟩ => ⟨S8x256, .f32⟩
  | .hbm, ⟨8, _⟩ => ⟨S8x256x64, .f32⟩
  | .hbm, ⟨9, _⟩ => ⟨S8x64, .f32⟩
  | .hbm, ⟨10, _⟩ => ⟨S8x64x256, .bf16⟩
  | .hbm, ⟨11, _⟩ => ⟨S8x1x256, .f32⟩
  | .hbm, ⟨12, _⟩ => ⟨S8x256x64, .bf16⟩
  | .hbm, ⟨13, _⟩ => ⟨S8x1x64, .f32⟩
  | .hbm, ⟨14, _⟩ => ⟨S81920x128, .f32⟩
  | .hbm, ⟨15, _⟩ => ⟨S32768x128, .f32⟩
  | .hbm, ⟨16, _⟩ => ⟨S32768x128, .f32⟩
  | .hbm, ⟨17, _⟩ => ⟨S32768x64, .f32⟩
  | .local .tc .vmem, ⟨0, _⟩ => ⟨S2048x128, .f32⟩
  | .local .tc .vmem, ⟨1, _⟩ => ⟨S2048x128, .f32⟩
  | .local .tc .vmem, ⟨2, _⟩ => ⟨S1x64x256, .bf16⟩
  | .local .tc .vmem, ⟨3, _⟩ => ⟨S1x64x256, .bf16⟩
  | .local .tc .vmem, ⟨4, _⟩ => ⟨S1x1x256, .f32⟩
  | .local .tc .vmem, ⟨5, _⟩ => ⟨S1x1x256, .f32⟩
  | .local .tc .vmem, ⟨6, _⟩ => ⟨S1x256x64, .bf16⟩
  | .local .tc .vmem, ⟨7, _⟩ => ⟨S1x256x64, .bf16⟩
  | .local .tc .vmem, ⟨8, _⟩ => ⟨S1x1x64, .f32⟩
  | .local .tc .vmem, ⟨9, _⟩ => ⟨S1x1x64, .f32⟩
  | .local .tc .vmem, ⟨10, _⟩ => ⟨S2048x128, .f32⟩
  | .local .tc .vmem, ⟨11, _⟩ => ⟨S2048x128, .f32⟩
  | .local .tc .vmem, ⟨12, _⟩ => ⟨S2048x64, .f32⟩
  | .local .tc .vmem, ⟨13, _⟩ => ⟨S2048x64, .f32⟩
  | .local .tc .vmem, ⟨14, _⟩ => ⟨S2048x128, .f32⟩
  | .local .tc .vmem, ⟨15, _⟩ => ⟨S2048x128, .f32⟩
  | .local .tc .vmem, ⟨16, _⟩ => ⟨S2048x128, .f32⟩
  | .local .tc .vmem, ⟨17, _⟩ => ⟨S2048x128, .f32⟩
  | .local .tc .vmem, ⟨18, _⟩ => ⟨S2048x1, .f32⟩
  | .local .tc .vmem, ⟨19, _⟩ => ⟨S2048x1, .f32⟩
  | .local .tc .vmem, ⟨20, _⟩ => ⟨S2048x1, .f32⟩
  | .local .tc .vmem, ⟨21, _⟩ => ⟨S2048x1, .f32⟩
  | .local .tc .vmem, ⟨22, _⟩ => ⟨S2048x64, .f32⟩
  | .local .tc .vmem, ⟨23, _⟩ => ⟨S2048x64, .f32⟩
  | .local .tc .smem, ⟨0, _⟩ => ⟨S40, .i32⟩
  | .local .scVector .vmem, ⟨0, _⟩ => ⟨S512x128, .f32⟩
  | .local .scVector .vmem, ⟨1, _⟩ => ⟨S8x128, .i32⟩
  | .local .scVector .vmem, ⟨2, _⟩ => ⟨S8x128, .i32⟩
  | _, _ => ⟨S32768x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_arg2 : Ref sig .tc := ⟨.smem, 0, rfl⟩
abbrev main_v4_scv : Ref sig .scVector := ⟨.hbm, 14, rfl⟩
abbrev main_arg3_scv : Ref sig .scVector := ⟨.hbm, 2, rfl⟩
abbrev main_arg4_scv : Ref sig .scVector := ⟨.hbm, 3, rfl⟩
abbrev main_v5_0_scv : Ref sig .scVector := ⟨.hbm, 15, rfl⟩
abbrev main_v5_1_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_189_r0 : BitVec 32 := 0#32
  ![v2.toNat, 0]
def k1_off2 (i : grid1.Coords) (c0_i32_43 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v36 : BitVec 32 := Scalar.muli v1 c1024_i32
  let v37 : BitVec 32 := Scalar.addi v36 c0_i32_43
  let c0_i32_189_r2 : BitVec 32 := 0#32
  ![v37.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x64 : Shape := ⟨2, ![32768, 64]⟩
abbrev S81920x128 : Shape := ⟨2, ![81920, 128]⟩
abbrev S40 : Shape := ⟨1, ![40]⟩
abbrev S256x128 : Shape := ⟨2, ![256, 128]⟩
abbrev S32768x1 : Shape := ⟨2, ![32768, 1]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S40x2048 : Shape := ⟨2, ![40, 2048]⟩
abbrev S81920 : Shape := ⟨1, ![81920]⟩
abbrev S_ : Shape := ⟨0, ![]⟩
abbrev S81920x64 : Shape := ⟨2, ![81920, 64]⟩
abbrev S1x64x256 : Shape := ⟨3, ![1, 64, 256]⟩
abbrev S64x256 : Shape := ⟨2, ![64, 256]⟩
abbrev S81920x256 : Shape := ⟨2, ![81920, 256]⟩
abbrev S1x256 : Shape := ⟨2, ![1, 256]⟩
abbrev S256 : Shape := ⟨1, ![256]⟩
abbrev S1x256x64 : Shape := ⟨3, ![1, 256, 64]⟩
abbrev S256x64 : Shape := ⟨2, ![256, 64]⟩
abbrev S1x64 : Shape := ⟨2, ![1, 64]⟩
abbrev S64 : Shape := ⟨1, ![64]⟩
abbrev S81920x1 : Shape := ⟨2, ![81920, 1]⟩
abbrev S32768 : Shape := ⟨1, ![32768]⟩

abbrev nBuf : Space → Nat
  | .hbm => 377
  | .vmem => 0
  | .smem => 0
  | _ => 0

abbrev hbmTy0_0 (i : Nat) : BufTy := match i % 128 with
  | 0 => ⟨S32768x64, .f32⟩
  | 1 => ⟨S81920x128, .f32⟩
  | 2 => ⟨S40, .i32⟩
  | 3 => ⟨S256x128, .i32⟩
  | 4 => ⟨S256x128, .i32⟩
  | 5 => ⟨S32768x1, .f32⟩
  | 6 => ⟨S32768x1, .f32⟩
  | 7 => ⟨S8x64x256, .f32⟩
  | 8 => ⟨S8x256, .f32⟩
  | 9 => ⟨S8x256x64, .f32⟩
  | 10 => ⟨S8x64, .f32⟩
  | 11 => ⟨S40x2048, .i32⟩
  | 12 => ⟨S81920, .i32⟩
  | 13 => ⟨S_, .f32⟩
  | 14 => ⟨S81920x64, .f32⟩
  | 15 => ⟨S_, .i32⟩
  | 16 => ⟨S81920, .i32⟩
  | 17 => ⟨S81920, .i1⟩
  | 18 => ⟨S81920, .f32⟩
  | 19 => ⟨S81920x64, .f32⟩
  | 20 => ⟨S1x64x256, .f32⟩
  | 21 => ⟨S64x256, .f32⟩
  | 22 => ⟨S81920x256, .f32⟩
  | 23 => ⟨S1x256, .f32⟩
  | 24 => ⟨S256, .f32⟩
  | 25 => ⟨S1x256, .f32⟩
  | 26 => ⟨S81920x256, .f32⟩
  | 27 => ⟨S81920x256, .f32⟩
  | 28 => ⟨S81920x256, .f32⟩
  | 29 => ⟨S81920x256, .f32⟩
  | 30 => ⟨S_, .f32⟩
  | 31 => ⟨S81920x256, .f32⟩
  | 32 => ⟨S81920x256, .f32⟩
  | 33 => ⟨S81920x256, .f32⟩
  | 34 => ⟨S_, .f32⟩
  | 35 => ⟨S81920x256, .f32⟩
  | 36 => ⟨S81920x256, .f32⟩
  | 37 => ⟨S81920x256, .f32⟩
  | 38 => ⟨S_, .f32⟩
  | 39 => ⟨S81920x256, .f32⟩
  | 40 => ⟨S81920x256, .f32⟩
  | 41 => ⟨S_, .f32⟩
  | 42 => ⟨S81920x256, .f32⟩
  | 43 => ⟨S81920x256, .f32⟩
  | 44 => ⟨S81920x256, .f32⟩
  | 45 => ⟨S1x256x64, .f32⟩
  | 46 => ⟨S256x64, .f32⟩
  | 47 => ⟨S81920x64, .f32⟩
  | 48 => ⟨S1x64, .f32⟩
  | 49 => ⟨S64, .f32⟩
  | 50 => ⟨S1x64, .f32⟩
  | 51 => ⟨S81920x64, .f32⟩
  | 52 => ⟨S81920x64, .f32⟩
  | 53 => ⟨S81920x1, .f32⟩
  | 54 => ⟨S81920x64, .f32⟩
  | 55 => ⟨S81920x64, .f32⟩
  | 56 => ⟨S81920x64, .f32⟩
  | 57 => ⟨S_, .i32⟩
  | 58 => ⟨S81920, .i32⟩
  | 59 => ⟨S81920, .i1⟩
  | 60 => ⟨S81920, .f32⟩
  | 61 => ⟨S81920x64, .f32⟩
  | 62 => ⟨S1x64x256, .f32⟩
  | 63 => ⟨S64x256, .f32⟩
  | 64 => ⟨S81920x256, .f32⟩
  | 65 => ⟨S1x256, .f32⟩
  | 66 => ⟨S256, .f32⟩
  | 67 => ⟨S1x256, .f32⟩
  | 68 => ⟨S81920x256, .f32⟩
  | 69 => ⟨S81920x256, .f32⟩
  | 70 => ⟨S81920x256, .f32⟩
  | 71 => ⟨S81920x256, .f32⟩
  | 72 => ⟨S_, .f32⟩
  | 73 => ⟨S81920x256, .f32⟩
  | 74 => ⟨S81920x256, .f32⟩
  | 75 => ⟨S81920x256, .f32⟩
  | 76 => ⟨S_, .f32⟩
  | 77 => ⟨S81920x256, .f32⟩
  | 78 => ⟨S81920x256, .f32⟩
  | 79 => ⟨S81920x256, .f32⟩
  | 80 => ⟨S_, .f32⟩
  | 81 => ⟨S81920x256, .f32⟩
  | 82 => ⟨S81920x256, .f32⟩
  | 83 => ⟨S_, .f32⟩
  | 84 => ⟨S81920x256, .f32⟩
  | 85 => ⟨S81920x256, .f32⟩
  | 86 => ⟨S81920x256, .f32⟩
  | 87 => ⟨S1x256x64, .f32⟩
  | 88 => ⟨S256x64, .f32⟩
  | 89 => ⟨S81920x64, .f32⟩
  | 90 => ⟨S1x64, .f32⟩
  | 91 => ⟨S64, .f32⟩
  | 92 => ⟨S1x64, .f32⟩
  | 93 => ⟨S81920x64, .f32⟩
  | 94 => ⟨S81920x64, .f32⟩
  | 95 => ⟨S81920x1, .f32⟩
  | 96 => ⟨S81920x64, .f32⟩
  | 97 => ⟨S81920x64, .f32⟩
  | 98 => ⟨S81920x64, .f32⟩
  | 99 => ⟨S_, .i32⟩
  | 100 => ⟨S81920, .i32⟩
  | 101 => ⟨S81920, .i1⟩
  | 102 => ⟨S81920, .f32⟩
  | 103 => ⟨S81920x64, .f32⟩
  | 104 => ⟨S1x64x256, .f32⟩
  | 105 => ⟨S64x256, .f32⟩
  | 106 => ⟨S81920x256, .f32⟩
  | 107 => ⟨S1x256, .f32⟩
  | 108 => ⟨S256, .f32⟩
  | 109 => ⟨S1x256, .f32⟩
  | 110 => ⟨S81920x256, .f32⟩
  | 111 => ⟨S81920x256, .f32⟩
  | 112 => ⟨S81920x256, .f32⟩
  | 113 => ⟨S81920x256, .f32⟩
  | 114 => ⟨S_, .f32⟩
  | 115 => ⟨S81920x256, .f32⟩
  | 116 => ⟨S81920x256, .f32⟩
  | 117 => ⟨S81920x256, .f32⟩
  | 118 => ⟨S_, .f32⟩
  | 119 => ⟨S81920x256, .f32⟩
  | 120 => ⟨S81920x256, .f32⟩
  | 121 => ⟨S81920x256, .f32⟩
  | 122 => ⟨S_, .f32⟩
  | 123 => ⟨S81920x256, .f32⟩
  | 124 => ⟨S81920x256, .f32⟩
  | 125 => ⟨S_, .f32⟩
  | 126 => ⟨S81920x256, .f32⟩
  | 127 => ⟨S81920x256, .f32⟩
  | _ => ⟨S32768x64, .f32⟩

abbrev hbmTy0_1 (i : Nat) : BufTy := match i % 128 with
  | 0 => ⟨S81920x256, .f32⟩
  | 1 => ⟨S1x256x64, .f32⟩
  | 2 => ⟨S256x64, .f32⟩
  | 3 => ⟨S81920x64, .f32⟩
  | 4 => ⟨S1x64, .f32⟩
  | 5 => ⟨S64, .f32⟩
  | 6 => ⟨S1x64, .f32⟩
  | 7 => ⟨S81920x64, .f32⟩
  | 8 => ⟨S81920x64, .f32⟩
  | 9 => ⟨S81920x1, .f32⟩
  | 10 => ⟨S81920x64, .f32⟩
  | 11 => ⟨S81920x64, .f32⟩
  | 12 => ⟨S81920x64, .f32⟩
  | 13 => ⟨S_, .i32⟩
  | 14 => ⟨S81920, .i32⟩
  | 15 => ⟨S81920, .i1⟩
  | 16 => ⟨S81920, .f32⟩
  | 17 => ⟨S81920x64, .f32⟩
  | 18 => ⟨S1x64x256, .f32⟩
  | 19 => ⟨S64x256, .f32⟩
  | 20 => ⟨S81920x256, .f32⟩
  | 21 => ⟨S1x256, .f32⟩
  | 22 => ⟨S256, .f32⟩
  | 23 => ⟨S1x256, .f32⟩
  | 24 => ⟨S81920x256, .f32⟩
  | 25 => ⟨S81920x256, .f32⟩
  | 26 => ⟨S81920x256, .f32⟩
  | 27 => ⟨S81920x256, .f32⟩
  | 28 => ⟨S_, .f32⟩
  | 29 => ⟨S81920x256, .f32⟩
  | 30 => ⟨S81920x256, .f32⟩
  | 31 => ⟨S81920x256, .f32⟩
  | 32 => ⟨S_, .f32⟩
  | 33 => ⟨S81920x256, .f32⟩
  | 34 => ⟨S81920x256, .f32⟩
  | 35 => ⟨S81920x256, .f32⟩
  | 36 => ⟨S_, .f32⟩
  | 37 => ⟨S81920x256, .f32⟩
  | 38 => ⟨S81920x256, .f32⟩
  | 39 => ⟨S_, .f32⟩
  | 40 => ⟨S81920x256, .f32⟩
  | 41 => ⟨S81920x256, .f32⟩
  | 42 => ⟨S81920x256, .f32⟩
  | 43 => ⟨S1x256x64, .f32⟩
  | 44 => ⟨S256x64, .f32⟩
  | 45 => ⟨S81920x64, .f32⟩
  | 46 => ⟨S1x64, .f32⟩
  | 47 => ⟨S64, .f32⟩
  | 48 => ⟨S1x64, .f32⟩
  | 49 => ⟨S81920x64, .f32⟩
  | 50 => ⟨S81920x64, .f32⟩
  | 51 => ⟨S81920x1, .f32⟩
  | 52 => ⟨S81920x64, .f32⟩
  | 53 => ⟨S81920x64, .f32⟩
  | 54 => ⟨S81920x64, .f32⟩
  | 55 => ⟨S_, .i32⟩
  | 56 => ⟨S81920, .i32⟩
  | 57 => ⟨S81920, .i1⟩
  | 58 => ⟨S81920, .f32⟩
  | 59 => ⟨S81920x64, .f32⟩
  | 60 => ⟨S1x64x256, .f32⟩
  | 61 => ⟨S64x256, .f32⟩
  | 62 => ⟨S81920x256, .f32⟩
  | 63 => ⟨S1x256, .f32⟩
  | 64 => ⟨S256, .f32⟩
  | 65 => ⟨S1x256, .f32⟩
  | 66 => ⟨S81920x256, .f32⟩
  | 67 => ⟨S81920x256, .f32⟩
  | 68 => ⟨S81920x256, .f32⟩
  | 69 => ⟨S81920x256, .f32⟩
  | 70 => ⟨S_, .f32⟩
  | 71 => ⟨S81920x256, .f32⟩
  | 72 => ⟨S81920x256, .f32⟩
  | 73 => ⟨S81920x256, .f32⟩
  | 74 => ⟨S_, .f32⟩
  | 75 => ⟨S81920x256, .f32⟩
  | 76 => ⟨S81920x256, .f32⟩
  | 77 => ⟨S81920x256, .f32⟩
  | 78 => ⟨S_, .f32⟩
  | 79 => ⟨S81920x256, .f32⟩
  | 80 => ⟨S81920x256, .f32⟩
  | 81 => ⟨S_, .f32⟩
  | 82 => ⟨S81920x256, .f32⟩
  | 83 => ⟨S81920x256, .f32⟩
  | 84 => ⟨S81920x256, .f32⟩
  | 85 => ⟨S1x256x64, .f32⟩
  | 86 => ⟨S256x64, .f32⟩
  | 87 => ⟨S81920x64, .f32⟩
  | 88 => ⟨S1x64, .f32⟩
  | 89 => ⟨S64, .f32⟩
  | 90 => ⟨S1x64, .f32⟩
  | 91 => ⟨S81920x64, .f32⟩
  | 92 => ⟨S81920x64, .f32⟩
  | 93 => ⟨S81920x1, .f32⟩
  | 94 => ⟨S81920x64, .f32⟩
  | 95 => ⟨S81920x64, .f32⟩
  | 96 => ⟨S81920x64, .f32⟩
  | 97 => ⟨S_, .i32⟩
  | 98 => ⟨S81920, .i32⟩
  | 99 => ⟨S81920, .i1⟩
  | 100 => ⟨S81920, .f32⟩
  | 101 => ⟨S81920x64, .f32⟩
  | 102 => ⟨S1x64x256, .f32⟩
  | 103 => ⟨S64x256, .f32⟩
  | 104 => ⟨S81920x256, .f32⟩
  | 105 => ⟨S1x256, .f32⟩
  | 106 => ⟨S256, .f32⟩
  | 107 => ⟨S1x256, .f32⟩
  | 108 => ⟨S81920x256, .f32⟩
  | 109 => ⟨S81920x256, .f32⟩
  | 110 => ⟨S81920x256, .f32⟩
  | 111 => ⟨S81920x256, .f32⟩
  | 112 => ⟨S_, .f32⟩
  | 113 => ⟨S81920x256, .f32⟩
  | 114 => ⟨S81920x256, .f32⟩
  | 115 => ⟨S81920x256, .f32⟩
  | 116 => ⟨S_, .f32⟩
  | 117 => ⟨S81920x256, .f32⟩
  | 118 => ⟨S81920x256, .f32⟩
  | 119 => ⟨S81920x256, .f32⟩
  | 120 => ⟨S_, .f32⟩
  | 121 => ⟨S81920x256, .f32⟩
  | 122 => ⟨S81920x256, .f32⟩
  | 123 => ⟨S_, .f32⟩
  | 124 => ⟨S81920x256, .f32⟩
  | 125 => ⟨S81920x256, .f32⟩
  | 126 => ⟨S81920x256, .f32⟩
  | 127 => ⟨S1x256x64, .f32⟩
  | _ => ⟨S32768x64, .f32⟩

abbrev hbmTy0_2 (i : Nat) : BufTy := match i % 128 with
  | 0 => ⟨S256x64, .f32⟩
  | 1 => ⟨S81920x64, .f32⟩
  | 2 => ⟨S1x64, .f32⟩
  | 3 => ⟨S64, .f32⟩
  | 4 => ⟨S1x64, .f32⟩
  | 5 => ⟨S81920x64, .f32⟩
  | 6 => ⟨S81920x64, .f32⟩
  | 7 => ⟨S81920x1, .f32⟩
  | 8 => ⟨S81920x64, .f32⟩
  | 9 => ⟨S81920x64, .f32⟩
  | 10 => ⟨S81920x64, .f32⟩
  | 11 => ⟨S_, .i32⟩
  | 12 => ⟨S81920, .i32⟩
  | 13 => ⟨S81920, .i1⟩
  | 14 => ⟨S81920, .f32⟩
  | 15 => ⟨S81920x64, .f32⟩
  | 16 => ⟨S1x64x256, .f32⟩
  | 17 => ⟨S64x256, .f32⟩
  | 18 => ⟨S81920x256, .f32⟩
  | 19 => ⟨S1x256, .f32⟩
  | 20 => ⟨S256, .f32⟩
  | 21 => ⟨S1x256, .f32⟩
  | 22 => ⟨S81920x256, .f32⟩
  | 23 => ⟨S81920x256, .f32⟩
  | 24 => ⟨S81920x256, .f32⟩
  | 25 => ⟨S81920x256, .f32⟩
  | 26 => ⟨S_, .f32⟩
  | 27 => ⟨S81920x256, .f32⟩
  | 28 => ⟨S81920x256, .f32⟩
  | 29 => ⟨S81920x256, .f32⟩
  | 30 => ⟨S_, .f32⟩
  | 31 => ⟨S81920x256, .f32⟩
  | 32 => ⟨S81920x256, .f32⟩
  | 33 => ⟨S81920x256, .f32⟩
  | 34 => ⟨S_, .f32⟩
  | 35 => ⟨S81920x256, .f32⟩
  | 36 => ⟨S81920x256, .f32⟩
  | 37 => ⟨S_, .f32⟩
  | 38 => ⟨S81920x256, .f32⟩
  | 39 => ⟨S81920x256, .f32⟩
  | 40 => ⟨S81920x256, .f32⟩
  | 41 => ⟨S1x256x64, .f32⟩
  | 42 => ⟨S256x64, .f32⟩
  | 43 => ⟨S81920x64, .f32⟩
  | 44 => ⟨S1x64, .f32⟩
  | 45 => ⟨S64, .f32⟩
  | 46 => ⟨S1x64, .f32⟩
  | 47 => ⟨S81920x64, .f32⟩
  | 48 => ⟨S81920x64, .f32⟩
  | 49 => ⟨S81920x1, .f32⟩
  | 50 => ⟨S81920x64, .f32⟩
  | 51 => ⟨S81920x64, .f32⟩
  | 52 => ⟨S81920x64, .f32⟩
  | 53 => ⟨S_, .i32⟩
  | 54 => ⟨S81920, .i32⟩
  | 55 => ⟨S81920, .i1⟩
  | 56 => ⟨S81920, .f32⟩
  | 57 => ⟨S81920x64, .f32⟩
  | 58 => ⟨S1x64x256, .f32⟩
  | 59 => ⟨S64x256, .f32⟩
  | 60 => ⟨S81920x256, .f32⟩
  | 61 => ⟨S1x256, .f32⟩
  | 62 => ⟨S256, .f32⟩
  | 63 => ⟨S1x256, .f32⟩
  | 64 => ⟨S81920x256, .f32⟩
  | 65 => ⟨S81920x256, .f32⟩
  | 66 => ⟨S81920x256, .f32⟩
  | 67 => ⟨S81920x256, .f32⟩
  | 68 => ⟨S_, .f32⟩
  | 69 => ⟨S81920x256, .f32⟩
  | 70 => ⟨S81920x256, .f32⟩
  | 71 => ⟨S81920x256, .f32⟩
  | 72 => ⟨S_, .f32⟩
  | 73 => ⟨S81920x256, .f32⟩
  | 74 => ⟨S81920x256, .f32⟩
  | 75 => ⟨S81920x256, .f32⟩
  | 76 => ⟨S_, .f32⟩
  | 77 => ⟨S81920x256, .f32⟩
  | 78 => ⟨S81920x256, .f32⟩
  | 79 => ⟨S_, .f32⟩
  | 80 => ⟨S81920x256, .f32⟩
  | 81 => ⟨S81920x256, .f32⟩
  | 82 => ⟨S81920x256, .f32⟩
  | 83 => ⟨S1x256x64, .f32⟩
  | 84 => ⟨S256x64, .f32⟩
  | 85 => ⟨S81920x64, .f32⟩
  | 86 => ⟨S1x64, .f32⟩
  | 87 => ⟨S64, .f32⟩
  | 88 => ⟨S1x64, .f32⟩
  | 89 => ⟨S81920x64, .f32⟩
  | 90 => ⟨S81920x64, .f32⟩
  | 91 => ⟨S81920x1, .f32⟩
  | 92 => ⟨S81920x64, .f32⟩
  | 93 => ⟨S81920x64, .f32⟩
  | 94 => ⟨S81920x64, .f32⟩
  | 95 => ⟨S32768, .i32⟩
  | 96 => ⟨S_, .i32⟩
  | 97 => ⟨S32768, .i32⟩
  | 98 => ⟨S32768, .i1⟩
  | 99 => ⟨S_, .i32⟩
  | 100 => ⟨S32768, .i32⟩
  | 101 => ⟨S32768, .i32⟩
  | 102 => ⟨S32768, .i32⟩
  | 103 => ⟨S32768x1, .i32⟩
  | 104 => ⟨S32768x64, .f32⟩
  | 105 => ⟨S32768x64, .f32⟩
  | 106 => ⟨S32768x64, .f32⟩
  | 107 => ⟨S32768, .i32⟩
  | 108 => ⟨S_, .i32⟩
  | 109 => ⟨S32768, .i32⟩
  | 110 => ⟨S32768, .i1⟩
  | 111 => ⟨S_, .i32⟩
  | 112 => ⟨S32768, .i32⟩
  | 113 => ⟨S32768, .i32⟩
  | 114 => ⟨S32768, .i32⟩
  | 115 => ⟨S32768x1, .i32⟩
  | 116 => ⟨S32768x64, .f32⟩
  | 117 => ⟨S32768x64, .f32⟩
  | 118 => ⟨S32768x64, .f32⟩
  | 119 => ⟨S32768x64, .f32⟩
  | 120 => ⟨S32768x64, .f32⟩
  | _ => ⟨S32768x64, .f32⟩

abbrev hbmTy (i : Nat) : BufTy := match i / 128 with
  | 0 => hbmTy0_0 i
  | 1 => hbmTy0_1 i
  | 2 => hbmTy0_2 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_9 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_10 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_11 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_12 : Ref sig .tc := ⟨.hbm, 122, rfl⟩
abbrev main_v97 : Ref sig .tc := ⟨.hbm, 123, rfl⟩
abbrev main_v98 : Ref sig .tc := ⟨.hbm, 124, rfl⟩
abbrev main_cst_13 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_c_14 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_15 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_16 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_17 : Ref sig .tc := ⟨.hbm, 164, rfl⟩
abbrev main_v134 : Ref sig .tc := ⟨.hbm, 165, rfl⟩
abbrev main_v135 : Ref sig .tc := ⟨.hbm, 166, rfl⟩
abbrev main_cst_18 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_c_19 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_20 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_21 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_cst_22 : Ref sig .tc := ⟨.hbm, 206, rfl⟩
abbrev main_v171 : Ref sig .tc := ⟨.hbm, 207, rfl⟩
abbrev main_v172 : Ref sig .tc := ⟨.hbm, 208, rfl⟩
abbrev main_cst_23 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_c_24 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_25 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_cst_26 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_27 : Ref sig .tc := ⟨.hbm, 248, rfl⟩
abbrev main_v208 : Ref sig .tc := ⟨.hbm, 249, rfl⟩
abbrev main_v209 : Ref sig .tc := ⟨.hbm, 250, rfl⟩
abbrev main_cst_28 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_c_29 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_cst_30 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_cst_31 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_cst_32 : Ref sig .tc := ⟨.hbm, 290, rfl⟩
abbrev main_v245 : Ref sig .tc := ⟨.hbm, 291, rfl⟩
abbrev main_v246 : Ref sig .tc := ⟨.hbm, 292, rfl⟩
abbrev main_cst_33 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_c_34 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_cst_35 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_cst_36 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_cst_37 : Ref sig .tc := ⟨.hbm, 332, rfl⟩
abbrev main_v282 : Ref sig .tc := ⟨.hbm, 333, rfl⟩
abbrev main_v283 : Ref sig .tc := ⟨.hbm, 334, rfl⟩
abbrev main_cst_38 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_c_39 : Ref sig .tc := ⟨.hbm, 352, rfl⟩
abbrev main_v300 : Ref sig .tc := ⟨.hbm, 353, rfl⟩
abbrev main_v301 : Ref sig .tc := ⟨.hbm, 354, rfl⟩
abbrev main_c_40 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_c_41 : Ref sig .tc := ⟨.hbm, 364, rfl⟩
abbrev main_v310 : Ref sig .tc := ⟨.hbm, 365, rfl⟩
abbrev main_v311 : Ref sig .tc := ⟨.hbm, 366, rfl⟩
abbrev main_c_42 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩

abbrev nD : Nat := 1
abbrev τ : Topo := Topo.v7x

variable {F : FTy → Type} [FloatOps F]
-- ==== Proof.Streams.lean ====
/-
  SEVERAL INDIRECT STREAMS outstanding on ONE semaphore. A subcore starts `m` indirect streams of `o` rows each
  before it waits for any of them, every row crediting the same `K` units. Each row of each stream is one transfer
  of a counted batch (`Transfers.Batch`): stream `b`'s row `j` is transfer `b * o + j`. A wait for one stream's
  units is a wait for `o` of the batch's transfers, and only the last wait hands every row's delivery back.
-/
module

public import Idealize.ShloMosaic.Lib.SparseCore.Scatter
public import Idealize.ShloMosaic.Lib.Batch

@[expose] public section

noncomputable section

namespace Cert.Proof.Streams

open Idealize.ShloMosaic Idealize.ShloMosaic.SparseCore
open Idealize.SL
open Idealize.SL.BI (sProp Storable bigSep bigSep_univ_prod bigSep_univ_equiv bigSep_congr)
open scoped Idealize.SL.BI
open Idealize.SL.BI.BIBase Idealize.SL.BI.Laws Idealize.SL.Sem Idealize.SL.ProofMode
open Idealize.SL.RA
open Idealize.ShloMosaic.Transfers (Batch pending)

section Flat

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- The transfers pending from `k` on are the next `o` of them and those pending from `k + o` on. -/
theorem bigSep_pending_add {n : ℕ} (Φ : Fin n → sProp 𝕄) (o : ℕ) : ∀ (k : ℕ) (h : k + o ≤ n),
    bigSep (pending k) Φ = iprop((bigSep Finset.univ fun j : Fin o => Φ ⟨k + j.val, by omega⟩) ∗ bigSep (pending (k + o)) Φ) := by
  induction o with
  | zero =>
    intro k h
    rw [show (Finset.univ : Finset (Fin 0)) = ∅ from rfl, BI.bigSep_empty]
    refine BI.Entails.antisymm (show (_ : sProp 𝕄) ⊢ _ from ?_) (show (_ : sProp 𝕄) ⊢ _ from ?_)
    · iintro H; isplitr; · iempintro
      iexact H
    · iintro ⟨-, H⟩; iexact H
  | succ o ih =>
    intro k h
    rw [Transfers.bigSep_pending_step Φ k (by omega), ih (k + 1) (by omega),
      bigSep_univ_succ (Ix := Ix) (Name := Name) (U := U) (Lvl := Lvl) (m := o)]
    have e : ∀ j : Fin o, (⟨k + 1 + j.val, by omega⟩ : Fin n) = ⟨k + j.succ.val, by simp; omega⟩ := fun j => Fin.ext (by simp; omega)
    have e0 : (⟨k + (0 : Fin (o + 1)).val, by simp; omega⟩ : Fin n) = ⟨k, by omega⟩ := Fin.ext (by simp)
    simp only [e, e0, show k + 1 + o = k + (o + 1) by omega]
    refine BI.Entails.antisymm (show (_ : sProp 𝕄) ⊢ _ from ?_) (show (_ : sProp 𝕄) ⊢ _ from ?_)
    · iintro ⟨H0, H1, H2⟩
      isplitl [H0 H1]; · isplitl [H0] <;> iassumption
      iexact H2
    · iintro ⟨⟨H0, H1⟩, H2⟩
      isplitl [H0]; · iexact H0
      isplitl [H1] <;> iassumption

/-- A family over streams and rows, numbered as the batch numbers its transfers. -/
def flat {m o : ℕ} (B : Fin m → Fin o → sProp 𝕄) : Fin (m * o) → sProp 𝕄 := fun t => B t.divNat t.modNat

/-- All of a flattened family is every stream's rows. -/
theorem bigSep_flat {m o : ℕ} (B : Fin m → Fin o → sProp 𝕄) :
    bigSep Finset.univ (flat B) = bigSep Finset.univ fun b => bigSep Finset.univ fun j => B b j := by
  rw [bigSep_univ_equiv finProdFinEquiv.symm.symm, bigSep_univ_prod]
  refine bigSep_congr fun b _ => bigSep_congr fun j _ => ?_
  have h := finProdFinEquiv.symm_apply_apply (b, j)
  have h1 : (finProdFinEquiv (b, j)).divNat = b := congrArg Prod.fst h
  have h2 : (finProdFinEquiv (b, j)).modNat = j := congrArg Prod.snd h
  change B (finProdFinEquiv (b, j)).divNat (finProdFinEquiv (b, j)).modNat = B b j
  rw [h1, h2]

/-- The word at `b * o + j` is word `j` of part `b`. -/
theorem flat_apply {m o : ℕ} (B : Fin m → Fin o → sProp 𝕄) (b : Fin m) (j : Fin o) (h : b.val * o + j.val < m * o) :
    flat B ⟨b.val * o + j.val, h⟩ = B b j := by
  have ho : 0 < o := Nat.lt_of_le_of_lt (Nat.zero_le _) j.isLt
  unfold flat
  congr 1
  · apply Fin.ext; simp [Fin.divNat, Nat.add_comm, Nat.add_mul_div_right _ _ ho, Nat.div_eq_of_lt j.isLt]
  · apply Fin.ext; simp [Fin.modNat, Nat.add_comm, Nat.mod_eq_of_lt j.isLt]

end Flat

section Issue

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {α : Type} {Q : α → sProp (MT nD τ sig Ix (Elt F) Name U Lvl)}

local notation "𝕄" => MT nD τ sig Ix (Elt F) Name U Lvl

/-- The issue of a stream of `o` rows as the next `o` transfers of a batch. Per entry the issuer hands in a share of
    the row's source and whatever updates the row's destination; the list's share goes back with the rows. -/
theorem wp_streamBatch [Infinite Name] [EC.LandsIn (upEmb : UEmb _ 𝕄)] {o n : ℕ} {si : Shape}
    {offs : Memref sig c.2.kind .vmem si .i32} {hn : si.numel = o} {sem : DmaSem sig} {hp : c.2.kind = .scVector}
    {row : Fin o → Elt F .i32 → Option (RowDma τ sig (Elt F) c.2 sem)}
    {k : PUnit → Prog (TpuEff nD τ sig (Elt F) Λ c.2) α}
    {qo : PosShare TreeShare} {fo : Buf (Elt F) (offs.view.loc c)}
    (rd : Fin o → RowDma τ sig (Elt F) c.2 sem) (q : Fin o → PosShare TreeShare)
    (fs : (j : Fin o) → Buf (Elt F) ((rd j).src.view.loc c)) (W R : Fin o → sProp 𝕄)
    (ι : Ix) (K : ℕ) (D : Fin n → sProp 𝕄) (t u : ℕ) (ht : t + o ≤ n) (hu : u ≤ t * K)
    (hA : (Stream.issued c offs.view hn sem row 0).RowsAgree)
    (hrd : ∀ j, row j ((Stream.issued c offs.view hn sem row 0).word fo j) = some (rd j))
    (hK : ∀ j, (rd j).dst.view.dmaCredit = K)
    (hW : ∀ j, W j ⊢ writeUpdate c (rd j).dst.view ((rd j).via.apply ((rd j).src.view.read (Elt F) (fs j))) (R j))
    (hD : ∀ j : Fin o, iprop((Stream.issued c offs.view hn sem row 0).heldEntry qo fo j ∗ R j
        ∗ ((rd j).src.view.loc c ↦[(rd j).src.view.set]{q j} fs j)) ⊢ D ⟨t + j.val, by omega⟩) :
    iprop((bigSep Finset.univ fun j => ((rd j).src.view.loc c ↦[(rd j).src.view.set]{q j} fs j)) ∗ bigSep Finset.univ W
        ∗ (offs.view.loc c ↦[offs.view.set]{qo} fo) ∗ Batch EC c (.dma sem) ι K D t u)
      ⊢ iprop((Batch EC c (.dma sem) ι K D (t + o) u -∗ wp frame (wpE defs 𝒱 c bd) Set.univ (k ⟨⟩) Q)
          -∗ wp frame (wpE defs 𝒱 c bd) Set.univ (.op (.enqueueIndirectDma hp offs hn sem row) k) Q) := by
  classical
  let S : Stream nD τ sig (Elt F) := Stream.issued c offs.view hn sem row 0
  have hen : Function.Bijective S.entry := (si.rowMajor.symm.bijective.comp (finCongr hn.symm).bijective)
  have hN : ∑ j, (rd j).dst.view.dmaCredit = o * K := by simp [hK]
  unfold Batch
  iintro ⟨Hs, HW, Ho, ⟨%γ, %γ₀, %κ, #Hinv, HI, H0, Hcred⟩⟩ Hk
  ihave HI' := (Entails.of_eq (bigSep_pending_add (fun t => count EC (γ t) 0) o t ht)) $$ HI
  icases HI' with ⟨Hγ, HI⟩
  ihave Ho' := (Entails.of_eq (pointsTo_entries c offs.view S.entry hen qo fo)) $$ Ho
  iapply (wp_enqueueIndirectDma 𝒱 c bd Set.univ (qo := qo) (fo := fo) (rd := rd) ι (o * K) hA hrd hN) $$ [Hs HW Ho' Hγ]
  · have hrow : ∀ j : Fin o, iprop(inv κ (Transfers.batchBody EC (c, SemLoc.dma sem) K D γ γ₀)
          ∗ (((((rd j).src.view.loc c ↦[(rd j).src.view.set]{q j} fs j) ∗ W j) ∗ S.heldEntry qo fo j)
            ∗ count EC (γ ⟨t + j.val, by omega⟩) 0))
        ⊢ iprop(S.heldEntry qo fo j ∗ (S.heldEntry qo fo j -∗ rowRes c (rd j))) := fun j => by
      iintro ⟨#Hinv, ⟨⟨Hsq, Hw⟩, He⟩, Hγj⟩
      isplitl [He]; · iexact He
      iintro He
      unfold rowRes
      iexists q j, fs j, R j
      isplitl [Hsq]; · iexact Hsq
      isplitl [Hw]; · iapply (hW j) $$ Hw
      have hc : (rd j).dst.view.amount (.dma sem) = K := hK j
      rw [hc]
      iapply (Transfers.batch_creditUpdate_with EC (put := S.heldEntry qo fo j) ⟨t + j.val, by omega⟩ (hD j))
      isplitr; · iexact Hinv
      isplitl [Hγj] <;> iassumption
    unfold Stream.res
    ihave H1 := Transfers.bigSep_sep_in _ _ _ $$ [Hs HW]; · isplitl [Hs] <;> iassumption
    ihave H2 := Transfers.bigSep_sep_in _ _ _ $$ [H1 Ho']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (t + o) * K - u = (t * K - u) + o * K by rw [Nat.add_mul]; omega, ← tallyAt_add]
    icombine Hcred Hcred' as H
    iexact H

variable {sp : Space} {s₀ s si : Shape} {e : EltTy} {a : Nat}

/-- The elements of an offset list, one by one, at a share. -/
abbrev entry {o : ℕ} (offs : View sig c.2.kind .vmem si .i32) (hn : si.numel = o) (qo : PosShare TreeShare)
    (fo : Buf (Elt F) (offs.loc c)) (j : Fin o) : sProp 𝕄 :=
  offs.loc c ↦[{offs.emb (si.rowMajor.symm (j.cast hn.symm))}]{qo} fo

omit [Preorder Lvl] in
/-- A held list is its entries. -/
theorem list_entries {o : ℕ} (offs : View sig c.2.kind .vmem si .i32) (hn : si.numel = o) (qo : PosShare TreeShare)
    (fo : Buf (Elt F) (offs.loc c)) :
    (offs.loc c ↦[offs.set]{qo} fo : sProp 𝕄) = bigSep Finset.univ fun j : Fin o => entry c offs hn qo fo j :=
  pointsTo_entries c offs (fun j : Fin o => si.rowMajor.symm (j.cast hn.symm))
    (si.rowMajor.symm.bijective.comp (finCongr hn.symm).bijective) qo fo

/-- Row `j`'s words of an indirect gather: the source's row `r j`. -/
def gatherWords (src : Memref sig c.2.kind sp s₀ e) (hg : s₀.Gathers a s) (fs : Buf (Elt F) (src.view.loc c))
    (r : Fin (s.size hg.axis') → Fin (s₀.size hg.axis)) (j : Fin (s.size hg.axis')) : (s.rowShape hg.axis').Idx → Elt F e :=
  fun i => src.view.read (Elt F) fs (hg.rowIdx (r j) i)

/-- What row `j` of an indirect gather delivers: the list's entry, the target's row at the contents the source's named
    row gives it, and the row's share of the source. -/
def gatherPart (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) : sProp 𝕄 :=
  iprop(entry c offs.view hn qo fo j
    ∗ (dst.view.loc c ↦[(dst.view.slice (s.rowRect hg.axis' j)).set]{fullShare}
        ((dst.view.slice (s.rowRect hg.axis' j)).write (Elt F) fd
          (gatherWords c src hg fs (rows (offs.view.read (Elt F) fo) hn hin) j) Finset.univ))
    ∗ (src.view.loc c ↦[src.view.set]{pieceOf q _ ho j} fs))

/-- A gathering stream's part may be kept in an invariant. -/
instance gatherPart_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) :
    Storable (upEmb : UEmb _ 𝕄) (gatherPart (Ix := Ix) (Name := Name) (U := U) (Lvl := Lvl) c src dst hg offs hn q qo fs fd fo ho hin j) := by
  unfold gatherPart; infer_instance

/-- All the rows of a gather are the target written with the gathered rows, and the source's and the list's shares back. -/
theorem gatherPart_join (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) :
    bigSep Finset.univ (gatherPart (Ix := Ix) (Name := Name) (U := U) (Lvl := Lvl) c src dst hg offs hn q qo fs fd fo ho hin)
      ⊢ iprop((dst.view.loc c ↦[dst.view.set]{fullShare}
          (dst.view.write (Elt F) fd (gatherPayload hg (src.view.read (Elt F) fs) (rows (offs.view.read (Elt F) fo) hn hin)) Finset.univ))
        ∗ (src.view.loc c ↦[src.view.set]{q} fs) ∗ (offs.view.loc c ↦[offs.view.set]{qo} fo)) := by
  unfold gatherPart
  iintro HD
  ihave H1 := Transfers.bigSep_sep_out _ _ _ $$ HD
  icases H1 with ⟨Hoffs, H2⟩
  ihave H3 := Transfers.bigSep_sep_out _ _ _ $$ H2
  icases H3 with ⟨Hrows, Hsrc⟩
  isplitl [Hrows]
  · iapply (pointsTo_rows_write c dst.view hg.axis' fd (gatherWords c src hg fs (rows (offs.view.read (Elt F) fo) hn hin))
      (gatherPayload hg (src.view.read (Elt F) fs) (rows (offs.view.read (Elt F) fo) hn hin))
      fun k j => by unfold gatherPayload gatherWords; rw [Shape.Gathers.idx_rowRect_emb]) $$ Hrows
  isplitl [Hsrc]; · iapply (Entails.of_eq (pointsTo_piecesOf src.view.set fs ho q).symm) $$ Hsrc
  iapply (Entails.of_eq (list_entries c offs.view hn qo fo).symm) $$ Hoffs

/-- The issue of an indirect gather as the next rows of a batch. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (K : ℕ) (D : Fin n → sProp 𝕄) (t u : ℕ) (ht : t + s.size hg.axis' ≤ n) (hu : u ≤ t * K)
    (hK : ∀ j, (dst.slice (s.rowRect hg.axis' j) (s.stride_rowRect hg.axis' j)).view.dmaCredit = K)
    (ho : 0 < s.size hg.axis') (hin : ∀ x, (offs.view.read (Elt F) fo x).toNat < s₀.size hg.axis)
    (hD : ∀ j : Fin (s.size hg.axis'), gatherPart c src dst hg offs hn q qo fs fd fo ho hin j ⊢ D ⟨t + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι K D t u)
      ⊢ iprop((Batch EC c (.dma sem) ι K D (t + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let r : Fin (s.size hg.axis') → Fin (s₀.size hg.axis) := rows (offs.view.read (Elt F) fo) hn hin
  iintro ⟨Hs, Hd, Ho, HB⟩ Hk
  ihave Hd' := (Entails.of_eq (pointsTo_rows c dst.view hg.axis' fullShare fd)) $$ Hd
  ihave Hs' := (Entails.of_eq (pointsTo_piecesOf (src.view.set) fs ho q)) $$ Hs
  iapply (wp_streamBatch EC 𝒱 c bd (qo := qo) (fo := fo)
    (rd := fun j => gatherRow c src dst hg sem hsrc he hsp hr j (r j)) (q := pieceOf q _ ho) (fs := fun _ => fs)
    (W := fun j => dst.view.loc c ↦[(dst.view.slice (s.rowRect hg.axis' j)).set]{fullShare} fd)
    (R := fun j => dst.view.loc c ↦[(dst.view.slice (s.rowRect hg.axis' j)).set]{fullShare}
        ((dst.view.slice (s.rowRect hg.axis' j)).write (Elt F) fd
          (gatherWords c src hg fs r j) Finset.univ))
    ι K D t u ht hu
    (by
      intro j x x' ρ ρ' h h'
      obtain ⟨_, _, rfl⟩ := Option.map_eq_some_iff.mp h
      obtain ⟨_, _, rfl⟩ := Option.map_eq_some_iff.mp h'
      rfl)
    (fun j => by
      change (rowOf (s₀.size hg.axis) (offs.view.read (Elt F) fo (si.rowMajor.symm (j.cast hn.symm)))).map _ = _
      rw [rowOf_of_lt (hin _)]; rfl)
    hK
    (fun j => pointsTo_writeUpdate c (v := dst.view.slice (s.rowRect hg.axis' j)) subset_rfl)
    (fun j => (show _ ⊢ gatherPart c src dst hg offs hn q qo fs fd fo ho hin j by unfold gatherPart; exact .rfl).trans (hD j)))
    $$ [Hs' Hd' Ho HB]
  · isplitl [Hs']; · iexact Hs'
    isplitl [Hd']; · iexact Hd'
    isplitl [Ho] <;> iassumption
  iexact Hk

/-- What row `j` of an indirect scatter delivers: the list's entry, the target's named row at the contents the source's
    row gives it, and the source's row. -/
def scatterPart (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Fin (s.size hg.axis') → Buf (Elt F) (dst.view.loc c)) (fo : Buf (Elt F) (offs.view.loc c))
    (r : Fin (s.size hg.axis') → Fin (s₀.size hg.axis)) (j : Fin (s.size hg.axis')) : sProp 𝕄 :=
  iprop(entry c offs.view hn qo fo j
    ∗ (dst.view.loc c ↦[(dst.view.slice (s₀.rowRect hg.axis (r j))).set]{fullShare}
        ((dst.view.slice (s₀.rowRect hg.axis (r j))).write (Elt F) (fd j) (scatterRowPayload c src hg fs j) Finset.univ))
    ∗ (src.view.loc c ↦[(src.view.slice (s.rowRect hg.axis' j)).set]{q} fs))

/-- A scattering stream's part may be kept in an invariant. -/
instance scatterPart_storable (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Fin (s.size hg.axis') → Buf (Elt F) (dst.view.loc c)) (fo : Buf (Elt F) (offs.view.loc c))
    (r : Fin (s.size hg.axis') → Fin (s₀.size hg.axis)) (j : Fin (s.size hg.axis')) :
    Storable (upEmb : UEmb _ 𝕄) (scatterPart (Ix := Ix) (Name := Name) (U := U) (Lvl := Lvl) c src dst hg offs hn q qo fs fd fo r j) := by
  unfold scatterPart; infer_instance

/-- All the rows of a scatter are the list's and the source's shares back, and each named row of the target written. -/
theorem scatterPart_join (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Fin (s.size hg.axis') → Buf (Elt F) (dst.view.loc c)) (fo : Buf (Elt F) (offs.view.loc c))
    (r : Fin (s.size hg.axis') → Fin (s₀.size hg.axis)) :
    bigSep Finset.univ (scatterPart (Ix := Ix) (Name := Name) (U := U) (Lvl := Lvl) c src dst hg offs hn q qo fs fd fo r)
      ⊢ iprop((bigSep Finset.univ fun j => dst.view.loc c ↦[(dst.view.slice (s₀.rowRect hg.axis (r j))).set]{fullShare}
          ((dst.view.slice (s₀.rowRect hg.axis (r j))).write (Elt F) (fd j) (scatterRowPayload c src hg fs j) Finset.univ))
        ∗ (src.view.loc c ↦[src.view.set]{q} fs) ∗ (offs.view.loc c ↦[offs.view.set]{qo} fo)) := by
  unfold scatterPart
  iintro HD
  ihave H1 := Transfers.bigSep_sep_out _ _ _ $$ HD
  icases H1 with ⟨Hoffs, H2⟩
  ihave H3 := Transfers.bigSep_sep_out _ _ _ $$ H2
  icases H3 with ⟨Hrows, Hsrc⟩
  isplitl [Hrows]; · iexact Hrows
  isplitl [Hsrc]; · iapply (Entails.of_eq (pointsTo_rows c src.view hg.axis' q fs).symm) $$ Hsrc
  iapply (Entails.of_eq (list_entries c offs.view hn qo fo).symm) $$ Hoffs

/-- The issue of an indirect scatter as the next rows of a batch: the target's named rows are handed in one by one. -/
theorem wp_scatterBatch [Infinite Name] [EC.LandsIn (upEmb : UEmb _ 𝕄)] {n : ℕ}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Fin (s.size hg.axis') → Buf (Elt F) (dst.view.loc c)}
    {fo : Buf (Elt F) (offs.view.loc c)}
    (ι : Ix) (K : ℕ) (D : Fin n → sProp 𝕄) (t u : ℕ) (ht : t + s.size hg.axis' ≤ n) (hu : u ≤ t * K)
    (r : Fin (s.size hg.axis') → Fin (s₀.size hg.axis))
    (hr' : ∀ j, (offs.view.read (Elt F) fo (si.rowMajor.symm (j.cast hn.symm))).toNat = (r j).val)
    (hK : ∀ j, (dst.slice (s₀.rowRect hg.axis j) (s₀.stride_rowRect hg.axis j)).view.dmaCredit = K)
    (hD : ∀ j : Fin (s.size hg.axis'), scatterPart c src dst hg offs hn q qo fs fd fo r j ⊢ D ⟨t + j.val, by omega⟩) :
    iprop((src.view.loc c ↦[src.view.set]{q} fs)
        ∗ (bigSep Finset.univ fun j => dst.view.loc c ↦[(dst.view.slice (s₀.rowRect hg.axis (r j))).set]{fullShare} fd j)
        ∗ (offs.view.loc c ↦[offs.view.set]{qo} fo) ∗ Batch EC c (.dma sem) ι K D t u)
      ⊢ iprop((Batch EC c (.dma sem) ι K D (t + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  let rd : Fin (s.size hg.axis') → RowDma τ sig (Elt F) c.2 sem := fun j => scatterRow c src dst hg sem he hsp hr j (r j)
  have hset : ∀ j, (src.view.slice (s.rowRect hg.axis' j)).set = (rd j).src.view.set := fun j =>
    (View.set_cast (v := src.view.slice (s.rowRect hg.axis' j)) _ _).symm
  iintro ⟨Hs, Hd, Ho, HB⟩ Hk
  ihave Hs' := (Entails.of_eq ((pointsTo_rows c src.view hg.axis' q fs).trans
    (bigSep_congr fun j _ => congrArg (fun I => (src.view.loc c ↦[I]{q} fs : sProp 𝕄)) (hset j)))) $$ Hs
  iapply (wp_streamBatch EC 𝒱 c bd (qo := qo) (fo := fo)
    (rd := rd) (q := fun _ => q) (fs := fun _ => fs)
    (W := fun j => dst.view.loc c ↦[(dst.view.slice (s₀.rowRect hg.axis (r j))).set]{fullShare} fd j)
    (R := fun j => dst.view.loc c ↦[(dst.view.slice (s₀.rowRect hg.axis (r j))).set]{fullShare}
          ((dst.view.slice (s₀.rowRect hg.axis (r j))).write (Elt F) (fd j) (scatterRowPayload c src hg fs j) Finset.univ))
    ι K D t u ht hu
    (by
      intro j x x' ρ ρ' h h'
      obtain ⟨_, _, rfl⟩ := Option.map_eq_some_iff.mp h
      obtain ⟨_, _, rfl⟩ := Option.map_eq_some_iff.mp h'
      rfl)
    (fun j => by
      have hlt : (offs.view.read (Elt F) fo (si.rowMajor.symm (j.cast hn.symm))).toNat < s₀.size hg.axis := by
        rw [hr' j]; exact (r j).isLt
      change (rowOf (s₀.size hg.axis) (offs.view.read (Elt F) fo (si.rowMajor.symm (j.cast hn.symm)))).map _ = _
      rw [rowOf_of_lt hlt, show (⟨_, hlt⟩ : Fin (s₀.size hg.axis)) = r j from Fin.ext (hr' j)]; rfl)
    (fun j => hK (r j))
    (fun j => pointsTo_writeUpdate c (v := dst.view.slice (s₀.rowRect hg.axis (r j))) subset_rfl)
    (fun j => (show _ ⊢ scatterPart c src dst hg offs hn q qo fs fd fo r j by
      unfold scatterPart; rw [hset j]; exact .rfl).trans (hD j)))
    $$ [Hs' Hd Ho HB]
  · isplitl [Hs']; · iexact Hs'
    isplitl [Hd]; · iexact Hd
    isplitl [Ho] <;> iassumption
  iexact Hk

/-- The issue of gather `b` of `m` equal ones, whose rows are a batch's transfers `b * o …`. -/
theorem wp_gatherNth [Infinite Name] [EC.LandsIn (upEmb : UEmb _ 𝕄)] {m : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (K : ℕ) (B : Fin m → Fin (s.size hg.axis') → sProp 𝕄) (b : Fin m)
    (hK : ∀ j, (dst.slice (s.rowRect hg.axis' j) (s.stride_rowRect hg.axis' j)).view.dmaCredit = K)
    (ho : 0 < s.size hg.axis') (hin : ∀ x, (offs.view.read (Elt F) fo x).toNat < s₀.size hg.axis)
    (hD : ∀ j : Fin (s.size hg.axis'), gatherPart c src dst hg offs hn q qo fs fd fo ho hin j ⊢ B b j) :
    iprop((src.view.loc c ↦[src.view.set]{q} fs) ∗ (dst.view.loc c ↦[dst.view.set]{fullShare} fd)
        ∗ (offs.view.loc c ↦[offs.view.set]{qo} fo) ∗ Batch EC c (.dma sem) ι K (flat B) (b.val * s.size hg.axis') 0)
      ⊢ iprop((Batch EC c (.dma sem) ι K (flat B) ((b.val + 1) * s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  have hb : b.val * s.size hg.axis' + s.size hg.axis' ≤ m * s.size hg.axis' := by
    rw [← Nat.succ_mul]; exact Nat.mul_le_mul_right _ b.isLt
  rw [Nat.succ_mul]
  exact wp_gatherBatch EC 𝒱 c bd ι K (flat B) (b.val * s.size hg.axis') 0 hb (Nat.zero_le _) hK ho hin
    (fun j => (hD j).trans (Entails.of_eq (flat_apply B b j _).symm))

/-- The issue of scatter `b` of `m` equal ones, whose rows are a batch's transfers `b * o …`. -/
theorem wp_scatterNth [Infinite Name] [EC.LandsIn (upEmb : UEmb _ 𝕄)] {m : ℕ}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Fin (s.size hg.axis') → Buf (Elt F) (dst.view.loc c)}
    {fo : Buf (Elt F) (offs.view.loc c)}
    (ι : Ix) (K : ℕ) (B : Fin m → Fin (s.size hg.axis') → sProp 𝕄) (b : Fin m)
    (r : Fin (s.size hg.axis') → Fin (s₀.size hg.axis))
    (hr' : ∀ j, (offs.view.read (Elt F) fo (si.rowMajor.symm (j.cast hn.symm))).toNat = (r j).val)
    (hK : ∀ j, (dst.slice (s₀.rowRect hg.axis j) (s₀.stride_rowRect hg.axis j)).view.dmaCredit = K)
    (hD : ∀ j : Fin (s.size hg.axis'), scatterPart c src dst hg offs hn q qo fs fd fo r j ⊢ B b j) :
    iprop((src.view.loc c ↦[src.view.set]{q} fs)
        ∗ (bigSep Finset.univ fun j => dst.view.loc c ↦[(dst.view.slice (s₀.rowRect hg.axis (r j))).set]{fullShare} fd j)
        ∗ (offs.view.loc c ↦[offs.view.set]{qo} fo) ∗ Batch EC c (.dma sem) ι K (flat B) (b.val * s.size hg.axis') 0)
      ⊢ iprop((Batch EC c (.dma sem) ι K (flat B) ((b.val + 1) * s.size hg.axis') 0 -∗ wp frame (wpE defs 𝒱 c bd) Set.univ (k ⟨⟩) Q)
          -∗ wp frame (wpE defs 𝒱 c bd) Set.univ (enqueueIndirectScatter hp src dst hg offs hn sem he hsp hr >>= k) Q) := by
  have hb : b.val * s.size hg.axis' + s.size hg.axis' ≤ m * s.size hg.axis' := by
    rw [← Nat.succ_mul]; exact Nat.mul_le_mul_right _ b.isLt
  rw [Nat.succ_mul]
  exact wp_scatterBatch EC 𝒱 c bd ι K (flat B) (b.val * s.size hg.axis') 0 hb (Nat.zero_le _) r hr' hK
    (fun j => (hD j).trans (Entails.of_eq (flat_apply B b j _).symm))

/-- Wait `b` of `m`, not the last: one stream's units are consumed. -/
theorem wp_waitNth [EC.LandsIn (upEmb : UEmb _ 𝕄)] {m o : ℕ} {s' : Shape} {e' : EltTy} {κ' : Kind} {sp' : Space} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {K : ℕ} (b : Fin m) (hJ : dstw.view.dmaCredit = o * K)
    {B : Fin m → Fin o → sProp 𝕄} {O : CellTallies nD τ sig Ix} {W : Waits sig Ix} :
    iprop(Batch EC c (.dma sem) ι K (flat B) (m * o) (b.val * (o * K)) ∗ owes c O W ∗ MayWait c (.dma sem) ι O)
      ⊢ iprop((iprop(Batch EC c (.dma sem) ι K (flat B) (m * o) ((b.val + 1) * (o * K)) ∗ owes c O (insert (SemLoc.dma sem, ι) W))
            -∗ wp frame (wpE defs 𝒱 c bd) Set.univ (k ⟨⟩) Q)
          -∗ wp frame (wpE defs 𝒱 c bd) Set.univ (.op (.waitDma2 sem srcw dstw hsrc hdst) k) Q) := by
  rw [Nat.succ_mul]
  refine Transfers.wp_waitBatchMulO EC 𝒱 c bd ι o hJ ?_
  rw [← Nat.succ_mul, Nat.mul_comm K, Nat.mul_assoc]
  exact Nat.mul_le_mul_right _ b.isLt

/-- The last wait of `m + 1`: every row's delivery comes back. -/
theorem wp_waitLast [EC.LandsIn (upEmb : UEmb _ 𝕄)] {m o : ℕ} {s' : Shape} {e' : EltTy} {κ' : Kind} {sp' : Space} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {K : ℕ} (hJ : dstw.view.dmaCredit = o * K) (hK : 0 < K)
    {B : Fin (m + 1) → Fin o → sProp 𝕄} {O : CellTallies nD τ sig Ix} {W : Waits sig Ix} :
    iprop(Batch EC c (.dma sem) ι K (flat B) ((m + 1) * o) (m * (o * K)) ∗ owes c O W ∗ MayWait c (.dma sem) ι O)
      ⊢ iprop((iprop((bigSep Finset.univ fun b => bigSep Finset.univ fun j => B b j) ∗ semVal (c, .dma sem) 0
            ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  rw [← bigSep_flat]
  refine Transfers.wp_waitBatchAllO EC 𝒱 c bd ι hJ hK ?_
  rw [← Nat.succ_mul, Nat.mul_comm K, Nat.mul_assoc]

/-- Part of a held buffer lent out, to be given back unchanged. -/
theorem pointsTo_lend {ℓ : Loc nD τ sig} {q : PosShare TreeShare} (f : Buf (Elt F) ℓ) (I : Finset (Idx ℓ)) :
    (ℓ ↦{q} f : sProp 𝕄) ⊢ iprop((ℓ ↦[I]{q} f) ∗ ((ℓ ↦[I]{q} f) -∗ ℓ ↦{q} f)) := by
  iintro H
  ihave H' := (pointsTo_split_subset (Finset.subset_univ I)).1 $$ H
  icases H' with ⟨HI, Hr⟩
  isplitl [HI]; · iexact HI
  iintro HI
  iapply (pointsTo_split_subset (Finset.subset_univ I)).2
  isplitl [HI] <;> iassumption

end Issue

end Cert.Proof.Streams

end
-- ==== Proof.Gather.lean ====
/-
  THE GATHER CALL. Thirty-two tasks, one on each vector subcore: each fetches its 1024 row numbers of either list,
  and for either list gathers its rows of the table in two halves of 512, each half by four indirect streams of 128
  rows outstanding together on one semaphore, and writes the half out to its block of the list's result.
-/
module

public import proofs.«01_k».proof.Defs
public import proofs.«01_k».proof.Proof.Streams
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_in_range

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Streams

variable {F : FTy → Type} [FloatOps F]

/-! ## The task's text, by its rounds -/

/-- The subcore that runs the task at `L`. -/
abbrev Tile (L : grid1.Coords) : Proc τ := .scVector ((L 0).castLE hcore1) ((L 1).castLE hsub1)

/-- All of the table, as a stream addresses it. -/
abbrev allM (y : Memref sig .scVector .hbm S81920x128 .f32) : Memref sig .scVector .hbm S81920x128 .f32 :=
  y.slice (Rect.unit (s := S81920x128) ![0, 0] S81920x128.size inb_S81920x128_S81920x128_0_0) (fun _ => rfl)
/-- Row `r` of a fetched list, as the stream's list of offsets. -/
abbrev lstM (l : Memref sig .scVector .vmem S8x128 .i32) (r : ℕ) (hr : ∀ a, (![r, 0] : Fin 2 → ℕ) a + S1x128.size a ≤ S8x128.size a) :
    Memref sig .scVector .vmem S128 .i32 :=
  (l.slice (Rect.unit (s := S8x128) ![r, 0] S1x128.size hr) (fun _ => rfl)).squeeze S128 squeezes_S1x128_S128
/-- Rows `r …` of the row buffer, 128 of them. -/
abbrev dstM (v : Memref sig .scVector .vmem S512x128 .f32) (r : ℕ) (hr : ∀ a, (![r, 0] : Fin 2 → ℕ) a + S128x128.size a ≤ S512x128.size a) :
    Memref sig .scVector .vmem S128x128 .f32 :=
  v.slice (Rect.unit (s := S512x128) ![r, 0] S128x128.size hr) (fun _ => rfl)
/-- Rows of a result, 512 of them, where task `L` writes half `h`. -/
abbrev outM (L : grid1.Coords) (o : Memref sig .scVector .hbm S32768x128 .f32) (h : Fin 2) : Memref sig .scVector .hbm S512x128 .f32 :=
  o.slice (Rect.unit (s := S32768x128) (k1_off2 L (BitVec.ofNat 32 (512 * h.val))) S512x128.size (k1_off2_inb L h)) (fun _ => rfl)
/-- The task's eight rows of a list. -/
abbrev srcM (L : grid1.Coords) (s : Memref sig .scVector .hbm S256x128 .i32) : Memref sig .scVector .hbm S8x128 .i32 :=
  s.slice (Rect.unit (s := S256x128) (k1_off1 L) S8x128.size (k1_off1_inb L)) (fun _ => rfl)

/-- Start one stream: the rows of the table that row `r` of a fetched list names, into the row buffer from row `d`. -/
abbrev issue (L : grid1.Coords) (y : Memref sig .scVector .hbm S81920x128 .f32) (v : Memref sig .scVector .vmem S512x128 .f32)
    (l : Memref sig .scVector .vmem S8x128 .i32) (sem : DmaSems sig S_) (r d : ℕ)
    (hr : ∀ a, (![r, 0] : Fin 2 → ℕ) a + S1x128.size a ≤ S8x128.size a) (hd : ∀ a, (![d, 0] : Fin 2 → ℕ) a + S128x128.size a ≤ S512x128.size a) :
    Prog (TpuEff nD τ sig (Elt F) Λ₀ (Tile L)) PUnit :=
  SparseCore.enqueueIndirectGather rfl (allM y) (dstM v d hd) gathers_S81920x128_S128x128 (lstM l r hr) rfl sem.sem (View.wordExact_bits rfl) rfl (Or.inl rfl)

/-- Wait for one stream. -/
abbrev await (L : grid1.Coords) (y : Memref sig .scVector .hbm S81920x128 .f32) (v : Memref sig .scVector .vmem S512x128 .f32)
    (sem : DmaSems sig S_) (d : ℕ) (hd : ∀ a, (![d, 0] : Fin 2 → ℕ) a + S128x128.size a ≤ S512x128.size a) :
    Prog (TpuEff nD τ sig (Elt F) Λ₀ (Tile L)) PUnit :=
  SparseCore.waitIndirectGather sem.sem (allM y) (dstM v d hd) (View.wordExact_bits rfl) (View.wordExact_bits rfl)

/-- A wait, then the rest. -/
theorem await_bind {α : Type} (L : grid1.Coords) (y : Memref sig .scVector .hbm S81920x128 .f32) (v : Memref sig .scVector .vmem S512x128 .f32)
    (sem : DmaSems sig S_) (d : ℕ) (hd : ∀ a, (![d, 0] : Fin 2 → ℕ) a + S128x128.size a ≤ S512x128.size a)
    (k : PUnit → Prog (TpuEff nD τ sig (Elt F) Λ₀ (Tile L)) α) :
    await L y v sem d hd >>= k = .op (.waitDma2 sem.sem (allM y) (dstM v d hd) (View.wordExact_bits rfl) (View.wordExact_bits rfl)) k := rfl
/-- A wait at the end. -/
theorem await_ret (L : grid1.Coords) (y : Memref sig .scVector .hbm S81920x128 .f32) (v : Memref sig .scVector .vmem S512x128 .f32)
    (sem : DmaSems sig S_) (d : ℕ) (hd : ∀ a, (![d, 0] : Fin 2 → ℕ) a + S128x128.size a ≤ S512x128.size a) :
    await (F := F) L y v sem d hd = .op (.waitDma2 sem.sem (allM y) (dstM v d hd) (View.wordExact_bits rfl) (View.wordExact_bits rfl)) .ret := rfl

/-- Where in the row buffer the four streams land. -/
abbrev dOff : Fin 4 → ℕ := ![0, 128, 256, 384]
/-- The four streams land within the row buffer. -/
theorem inb_dst : ∀ b : Fin 4, ∀ a, (![dOff b, 0] : Fin 2 → ℕ) a + S128x128.size a ≤ S512x128.size a := by decide

/-- Four streams started together and waited for. -/
def four (L : grid1.Coords) (y : Memref sig .scVector .hbm S81920x128 .f32) (v : Memref sig .scVector .vmem S512x128 .f32)
    (l : Memref sig .scVector .vmem S8x128 .i32) (sem : DmaSems sig S_) (r : Fin 4 → ℕ)
    (hr : ∀ b, ∀ a, (![r b, 0] : Fin 2 → ℕ) a + S1x128.size a ≤ S8x128.size a) : Prog (TpuEff nD τ sig (Elt F) Λ₀ (Tile L)) PUnit := do
  issue L y v l sem (r 0) (dOff 0) (hr 0) (inb_dst 0)
  issue L y v l sem (r 1) (dOff 1) (hr 1) (inb_dst 1)
  issue L y v l sem (r 2) (dOff 2) (hr 2) (inb_dst 2)
  issue L y v l sem (r 3) (dOff 3) (hr 3) (inb_dst 3)
  await L y v sem (dOff 0) (inb_dst 0)
  await L y v sem (dOff 1) (inb_dst 1)
  await L y v sem (dOff 2) (inb_dst 2)
  await L y v sem (dOff 3) (inb_dst 3)

/-- The fetch of a list's rows, and its wait. -/
def fetch (L : grid1.Coords) (s : Memref sig .scVector .hbm S256x128 .i32) (l : Memref sig .scVector .vmem S8x128 .i32) (hl : l.IsWhole)
    (sem : DmaSems sig S_) : Prog (TpuEff nD τ sig (Elt F) Λ₀ (Tile L)) PUnit := do
  Prog.lift (.enqueueDma (srcM L s) (.here l) (.dma sem.sem) (View.wordExact_bits rfl) hl.wordExact ⟨Or.inl rfl, trivial⟩)
  Prog.lift (.waitDma2 sem.sem (srcM L s) l (View.wordExact_bits rfl) hl.wordExact)

/-- The write-out of the row buffer, and its wait. -/
def store (L : grid1.Coords) (v : Memref sig .scVector .vmem S512x128 .f32) (hv : v.IsWhole) (o : Memref sig .scVector .hbm S32768x128 .f32)
    (h : Fin 2) (sem : DmaSems sig S_) : Prog (TpuEff nD τ sig (Elt F) Λ₀ (Tile L)) PUnit := do
  Prog.lift (.enqueueDma v (.here (outM L o h)) (.dma sem.sem) hv.wordExact (View.wordExact_bits rfl) ⟨Or.inl rfl, trivial⟩)
  Prog.lift (.waitDma2 sem.sem v (outM L o h) hv.wordExact (View.wordExact_bits rfl))

/-- The rows of a fetched list the two halves read. -/
theorem inb_low : ∀ b : Fin 4, ∀ a, (![(![0, 1, 2, 3] : Fin 4 → ℕ) b, 0] : Fin 2 → ℕ) a + S1x128.size a ≤ S8x128.size a := by decide
/-- The second half of a list has rows four to seven. -/
theorem inb_high : ∀ b : Fin 4, ∀ a, (![(![4, 5, 6, 7] : Fin 4 → ℕ) b, 0] : Fin 2 → ℕ) a + S1x128.size a ≤ S8x128.size a := by decide

set_option maxRecDepth 65536 in
/-- The printed task is: fetch either list; for either list, twice four streams and a write-out. -/
theorem body_eq (L : grid1.Coords) (y : Memref sig .scVector .hbm S81920x128 .f32) (hy : y.IsWhole)
    (s1 : Memref sig .scVector .hbm S256x128 .i32) (hs1 : s1.IsWhole) (s2 : Memref sig .scVector .hbm S256x128 .i32) (hs2 : s2.IsWhole)
    (o1 : Memref sig .scVector .hbm S32768x128 .f32) (ho1 : o1.IsWhole) (o2 : Memref sig .scVector .hbm S32768x128 .f32) (ho2 : o2.IsWhole)
    (v : Memref sig .scVector .vmem S512x128 .f32) (hv : v.IsWhole) (l1 : Memref sig .scVector .vmem S8x128 .i32) (hl1 : l1.IsWhole)
    (l2 : Memref sig .scVector .vmem S8x128 .i32) (hl2 : l2.IsWhole) (sem r0 r1 r2 r3 r4 r5 : DmaSems sig S_) :
    cc1__gather_body (F := F) L y hy s1 hs1 s2 hs2 o1 ho1 o2 ho2 v hv l1 hl1 l2 hl2 sem r0 r1 r2 r3 r4 r5
      = (do
          fetch L s1 l1 hl1 r0
          fetch L s2 l2 hl2 r1
          four L y v l1 sem ![0, 1, 2, 3] inb_low
          store L v hv o1 0 r2
          four L y v l1 sem ![4, 5, 6, 7] inb_high
          store L v hv o1 1 r3
          four L y v l2 sem ![0, 1, 2, 3] inb_low
          store L v hv o2 0 r4
          four L y v l2 sem ![4, 5, 6, 7] inb_high
          store L v hv o2 1 r5) := rfl

/-! ## The program as the launch theorem sees it -/

/-- The program's labels, the pipelines' calls among them. -/
abbrev ΛP : Labels := Pipeline.Sig Λ₀ (Fin 2) fun p => (pcfgs (F := F) p).Adm
/-- The launch of the gather. -/
abbrev K : SparseCore.Cfg τ sig (ΛP (F := F)) 1 := sc (F := F)
/-- The bodies of the calls. -/
abbrev D : Defs nD τ sig (Elt F) (ΛP (F := F)) := Pipeline.defs pcfgs defs₀
/-- The bodies make no calls, so they need no variant. -/
abbrev 𝒱₀ : Variants := Variants.none
/-- The pipelines' loops count their iterations. -/
abbrev 𝒱 : Variants := 𝒱₀.lift
/-- The variant of a part that makes no calls. -/
abbrev v₀ : 𝒱.V := Sum.inl none

/-- The launch's two sequencer semaphores differ, none of its semaphores belongs to a scope, and no core's memory is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost algebra of the handshakes. -/
abbrev UH : Type := URounds (GSem nD τ sig) ℕ
/-- The copies of the ghost algebras: the handshakes of the cores, the staging cells of the pipelines, and the counters of copies. -/
abbrev UU : Type := UH × (UR sig nD τ × Counters)

local notation "𝕄" => MT nD τ sig (HIx 1) (Elt F) ℕ UU ℕ

/-- Where the handshakes' ghost state lives. -/
abbrev EH : Emb UH (MT nD τ sig (HIx 1) (Elt F) ℕ UU ℕ) := embL
/-- Where the pipelines' ghost state lives. -/
abbrev EP : Emb (UR sig nD τ) (MT nD τ sig (HIx 1) (Elt F) ℕ UU ℕ) := (Emb.inl : Emb (UR sig nD τ) (UR sig nD τ × Counters)).trans embR
/-- The pipelines' ghost state may be kept in an invariant. -/
instance EP_landsIn : (EP (F := F)).LandsIn (upEmb : UEmb _ (MT nD τ sig (HIx 1) (Elt F) ℕ UU ℕ)) := by unfold EP; infer_instance

/-! ## Four streams -/

/-- The index of a word, by its one coordinate. -/
abbrev at1 {n : ℕ} (a : Fin n) : Shape.Idx ⟨1, ![n]⟩ := fun | 0 => a
/-- The index of a word, by its two coordinates. -/
abbrev at2 {n k : ℕ} (a : Fin n) (b : Fin k) : Shape.Idx ⟨2, ![n, k]⟩ := fun | 0 => a | 1 => b

/-- The words four streams of 128 rows leave in the row buffer, stream `b` reading the list `w b`. -/
def gathered (fy : S81920x128.Idx → F .f32) (w : Fin 4 → S128.Idx → BitVec 32) (h : ∀ b x, (w b x).toNat < 81920) (x : S512x128.Idx) : F .f32 :=
  fy (at2 ⟨(w ⟨(x 0).val / 128, by have := (x 0).isLt; change _ < 512 at this; omega⟩ (at1 ⟨(x 0).val % 128, Nat.mod_lt _ (by decide)⟩)).toNat, h _ _⟩ (x 1))

section Four

variable (d : Dev nD) (L : grid1.Coords)

/-- The core of the task at `L`. -/
abbrev cV (L : grid1.Coords) : Fin τ.nSC := (L 0).castLE hcore1
/-- The subcore of the task at `L`, within its core. -/
abbrev jV (L : grid1.Coords) : Fin τ.nSub := (L 1).castLE hsub1

/-- The table, as a tile names it. -/
abbrev yV : Memref sig .scVector .hbm S81920x128 .f32 := Memref.whole main_v4_scv
/-- The first list, as a tile names it. -/
abbrev sV : Memref sig .scVector .hbm S256x128 .i32 := Memref.whole main_arg3_scv
/-- The second list, as a tile names it. -/
abbrev tV : Memref sig .scVector .hbm S256x128 .i32 := Memref.whole main_arg4_scv
/-- The first list's result, as a tile names it. -/
abbrev oV : Memref sig .scVector .hbm S32768x128 .f32 := Memref.whole main_v5_0_scv
/-- The second list's result, as a tile names it. -/
abbrev pV : Memref sig .scVector .hbm S32768x128 .f32 := Memref.whole main_v5_1_scv
/-- A tile's row buffer. -/
abbrev vV : Memref sig .scVector .vmem S512x128 .f32 := Memref.whole cc1_scratch0
/-- A tile's copy of its rows of the first list. -/
abbrev aV : Memref sig .scVector .vmem S8x128 .i32 := Memref.whole cc1_scratch1
/-- A tile's copy of its rows of the second list. -/
abbrev bV : Memref sig .scVector .vmem S8x128 .i32 := Memref.whole cc1_scratch2

/-- Rectangles of one origin and one size are the same words. -/
theorem unit_set_congr {s : Shape} {o o' z z' : Fin s.rank → ℕ} {h : ∀ a, o a + z a ≤ s.size a} {h' : ∀ a, o' a + z' a ≤ s.size a}
    (ho : o = o') (hz : z = z') : (Rect.unit o z h).set = (Rect.unit o' z' h').set := by
  subst ho hz; rfl

/-- The row buffer is four parts. -/
theorem ddiv : 4 ∣ S512x128.size 0 := ⟨128, rfl⟩
/-- Where in the row buffer stream `b` lands. -/
abbrev dSet (b : Fin 4) : Finset S512x128.Idx := (dstM vV (dOff b) (inb_dst b)).view.set

/-- It is the part `b` of four. -/
theorem dSet_eq (b : Fin 4) : dSet b = (Rect.part (s := S512x128) (a₀ := 0) ddiv b).set := by
  show ((View.whole (cc1_scratch0 : Ref sig .scVector)).slice _).set = _
  rw [View.set_slice]
  refine Eq.trans Finset.map_refl ?_
  unfold Rect.part Rect.block
  refine unit_set_congr (funext fun a => ?_) (funext fun a => ?_)
  · match b, a with
    | 0, 0 => rfl
    | 1, 0 => rfl
    | 2, 0 => rfl
    | 3, 0 => rfl
    | 0, 1 => rfl
    | 1, 1 => rfl
    | 2, 1 => rfl
    | 3, 1 => rfl
  · match a with
    | 0 => rfl
    | 1 => rfl

/-- A stream reads anywhere in the table. -/
theorem allM_set : (allM yV).view.set = Finset.univ := by
  show ((View.whole (main_v4_scv : Ref sig .scVector)).slice _).set = _
  rw [View.set_slice]
  refine Eq.trans Finset.map_refl ?_
  refine Eq.trans ?_ (Rect.set_whole S81920x128)
  unfold Rect.whole
  refine unit_set_congr (funext fun a => ?_) rfl
  match a with
  | 0 => rfl
  | 1 => rfl

/-- Four resources, one by one. -/
theorem bigSep_four (Φ : Fin 4 → sProp 𝕄) : bigSep Finset.univ Φ = iprop(Φ 0 ∗ Φ 1 ∗ Φ 2 ∗ Φ 3) := by
  rw [bigSep_univ_succ (m := 3), bigSep_univ_succ (m := 2), bigSep_univ_succ (m := 1), bigSep_univ_of_subsingleton (0 : Fin 1)]
  rfl

/-- The row buffer is its four pieces. -/
theorem v_pieces (f : Buf (Elt F) ((V d (cV L) (jV L)).loc cc1_scratch0)) :
    ((V d (cV L) (jV L)).loc cc1_scratch0 ↦{fullShare} f : sProp 𝕄) = bigSep Finset.univ fun b : Fin 4 => (V d (cV L) (jV L)).loc cc1_scratch0 ↦[dSet b]{fullShare} f := by
  rw [← pointsTo_biUnion Finset.univ (ℓ := (V d (cV L) (jV L)).loc cc1_scratch0) dSet
    (fun i _ j _ h => by rw [dSet_eq, dSet_eq]; exact Rect.part_disjoint ddiv h),
    (Finset.biUnion_congr rfl fun i _ => dSet_eq i).trans (Rect.biUnion_part ddiv)]

/-- The lists the four streams read, one row each of a fetched block of rows. -/
abbrev words (l : Memref sig .scVector .vmem S8x128 .i32) (r : Fin 4 → ℕ)
    (hr : ∀ b, ∀ a, (![r b, 0] : Fin 2 → ℕ) a + S1x128.size a ≤ S8x128.size a) (fl : Buf (Elt F) (l.view.loc (V d (cV L) (jV L)))) (b : Fin 4) : S128.Idx → BitVec 32 :=
  (lstM l (r b) (hr b)).view.read (Elt F) fl

/-- The rows where stream `b` lands. -/
abbrev dM (b : Fin 4) : Memref sig .scVector .vmem S128x128 .f32 := dstM vV (dOff b) (inb_dst b)

/-- On its piece of the row buffer, what stream `b` writes is the gathered rows. -/
theorem dM_write (b : Fin 4) (fy : Buf (Elt F) ((V d (cV L) (jV L)).loc main_v4_scv)) (fv : Buf (Elt F) ((V d (cV L) (jV L)).loc cc1_scratch0)) (w : Fin 4 → S128.Idx → BitVec 32)
    (h : ∀ b x, (w b x).toNat < 81920) (i : S512x128.Idx) (hi : i ∈ dSet b) :
    (dM b).view.write (Elt F) fv (SparseCore.gatherPayload gathers_S81920x128_S128x128 ((allM yV).view.read (Elt F) fy)
      (SparseCore.rows (F := F) (w b) (rfl : S128.numel = _) (h b))) Finset.univ i = gathered fy w h i := by
  obtain ⟨k, -, rfl⟩ := Finset.mem_map.mp hi
  refine (View.write_emb_of_mem (Val := Elt F) (v := (dM b).view) fv _ (Finset.mem_univ k)).trans ?_
  show fy ((allM yV).view.emb (gathers_S81920x128_S128x128.idx _ k)) = _
  unfold gathered
  congr 1
  have hk : (k 0).val < 128 := (k 0).isLt
  have hv : ((dM b).view.emb k 0).val = 128 * b.val + (k 0).val := by
    show dOff b + 1 * (k 0).val = _
    match b with
    | 0 => simp
    | 1 => simp
    | 2 => simp
    | 3 => simp
  have e1 : (⟨((dM b).view.emb k 0).val / 128, by rw [hv]; omega⟩ : Fin 4) = b := Fin.ext (by simp only [hv]; omega)
  have e2 : (at1 ⟨((dM b).view.emb k 0).val % 128, Nat.mod_lt _ (by decide)⟩ : S128.Idx) = S128.rowMajor.symm ((k 0).cast rfl) := by
    rw [Equiv.eq_symm_apply]
    apply Fin.ext
    rw [Shape.rowMajor_val_one]
    show ((dM b).view.emb k 0).val % 128 = (k 0).val
    rw [hv]; omega
  funext a
  match a with
  | 0 =>
    apply Fin.ext
    show 0 + 1 * (w b (S128.rowMajor.symm ((k 0).cast rfl))).toNat = (w _ _).toNat
    rw [e1, e2]; simp
  | 1 =>
    apply Fin.ext
    show 0 + 1 * (k 1).val = 0 + 1 * (k 1).val
    rfl

/-- The waits a task owes nothing for: those it began with, and waits of its own copies. -/
def owesFrom (O : CellTallies nD τ sig (HIx 1)) (W : Waits sig (HIx 1)) : sProp 𝕄 :=
  iprop(∃ W', ⌜∀ p ∈ W', p ∈ W ∨ p.2 = none⌝ ∗ owes (V d (cV L) (jV L)) O W')

/-- What one row of a stream adds to its semaphore. -/
theorem row_amount (b : Fin 4) (j : Fin (S128x128.size gathers_S81920x128_S128x128.axis')) :
    ((dM b).slice (S128x128.rowRect gathers_S81920x128_S128x128.axis' j) (S128x128.stride_rowRect _ j)).view.dmaCredit = 4096 :=
  (rfl : _ = sig.dmaCredit .scVector (Kind.table .scVector .vmem) 0 (S128x128.rowShape gathers_S81920x128_S128x128.axis') .f32).trans (by decide)

/-- Four streams at once: the row buffer ends holding the rows the four lists name. -/
theorem wp_four (l : Memref sig .scVector .vmem S8x128 .i32) (r : Fin 4 → ℕ)
    (hr : ∀ b, ∀ a, (![r b, 0] : Fin 2 → ℕ) a + S1x128.size a ≤ S8x128.size a)
    (q : PosShare TreeShare) (fy : Buf (Elt F) ((V d (cV L) (jV L)).loc main_v4_scv)) (fv : Buf (Elt F) ((V d (cV L) (jV L)).loc cc1_scratch0)) (fl : Buf (Elt F) (l.view.loc (V d (cV L) (jV L))))
    (hin : ∀ b x, (words (F := F) d L l r hr fl b x).toNat < 81920)
    (O : CellTallies nD τ sig (HIx 1)) (W : Waits sig (HIx 1)) (hO : ∀ g, O g none = 0) :
    iprop(levAts (K (F := F)).L (K (F := F)).lev ∗ ((V d (cV L) (jV L)).loc main_v4_scv ↦{q} fy) ∗ ((V d (cV L) (jV L)).loc cc1_scratch0 ↦{fullShare} fv) ∗ (l.view.loc (V d (cV L) (jV L)) ↦{fullShare} fl)
        ∗ semVal ((V d (cV L) (jV L)), .dma cc1_scratch3.sem) 0 ∗ owesFrom d L O W)
      ⊢ wp frame (wpE (defs₀ (F := F)) 𝒱₀ (V d (cV L) (jV L)) none) Set.univ (four L yV vV l cc1_scratch3 r hr)
          fun _ => (iprop(((V d (cV L) (jV L)).loc main_v4_scv ↦{q} fy) ∗ ((V d (cV L) (jV L)).loc cc1_scratch0 ↦{fullShare} (gathered fy (words (F := F) d L l r hr fl) hin : Buf (Elt F) ((V d (cV L) (jV L)).loc cc1_scratch0)))
            ∗ (l.view.loc (V d (cV L) (jV L)) ↦{fullShare} fl) ∗ semVal ((V d (cV L) (jV L)), .dma cc1_scratch3.sem) 0
            ∗ owesFrom d L O W) : sProp 𝕄) := by
  let Bd : Fin 4 → Fin (S128x128.size gathers_S81920x128_S128x128.axis') → sProp 𝕄 := fun b => gatherPart (V d (cV L) (jV L)) (allM yV) (dM b) gathers_S81920x128_S128x128 (lstM l (r b) (hr b)) rfl
    (pieceOf q 4 (by decide) b) (pieceOf fullShare 4 (by decide) b) fy fv fl (by decide) (hin b)
  have hst : ∀ t, Storable (upEmb : UEmb _ 𝕄) (flat Bd t) := fun t => by
    unfold flat; exact gatherPart_storable (F := F) ..
  have hJ : ∀ b, (dM b).view.dmaCredit = 128 * 4096 := fun b => rfl
  unfold owesFrom
  iintro ⟨#Hlv, Hy, Hv, Hl, Hs, ⟨%W₁, %hW₁, HO⟩⟩
  ihave Hmw := (show levAts (K (F := F)).L (K (F := F)).lev ⊢ Transfers.MayWaits (V d (cV L) (jV L)) (default : HIx 1) O from
    (K (F := F)).mayWaits_none (thr := (V d (cV L) (jV L))) hO) $$ Hlv
  imod (Transfers.batch_alloc' countersEmb (V d (cV L) (jV L)) (default : HIx 1) 4096 (flat Bd)) $$ Hs with HB
  ihave Hy' := (Entails.of_eq (pointsTo_piecesOf Finset.univ fy (by decide : 0 < 4) q)) $$ Hy
  ihave Hl' := (Entails.of_eq (pointsTo_piecesOf Finset.univ fl (by decide : 0 < 4) fullShare)) $$ Hl
  ihave Hv' := (Entails.of_eq (v_pieces d L fv)) $$ Hv
  simp only [bigSep_four]
  icases Hy' with ⟨Hy0, Hy1, Hy2, Hy3⟩
  icases Hv' with ⟨Hv0, Hv1, Hv2, Hv3⟩
  icases Hl' with ⟨Hl0, Hl1, Hl2, Hl3⟩
  ihave Hl0' := (pointsTo_lend fl (lstM l (r 0) (hr 0)).view.set) $$ Hl0
  icases Hl0' with ⟨Hl0, Hlb0⟩
  ihave Hl1' := (pointsTo_lend fl (lstM l (r 1) (hr 1)).view.set) $$ Hl1
  icases Hl1' with ⟨Hl1, Hlb1⟩
  ihave Hl2' := (pointsTo_lend fl (lstM l (r 2) (hr 2)).view.set) $$ Hl2
  icases Hl2' with ⟨Hl2, Hlb2⟩
  ihave Hl3' := (pointsTo_lend fl (lstM l (r 3) (hr 3)).view.set) $$ Hl3
  icases Hl3' with ⟨Hl3, Hlb3⟩
  unfold four
  iapply (wp_gatherNth countersEmb 𝒱₀ (V d (cV L) (jV L)) none (default : HIx 1) 4096 Bd 0 (row_amount _) (by decide) (hin 0) (fun j => .rfl)) $$ [Hy0 Hv0 Hl0 HB]
  · isplitl [Hy0]; · rw [allM_set]; iexact Hy0
    isplitl [Hv0]; · iexact Hv0
    isplitl [Hl0]; · iexact Hl0
    iexact HB
  iintro HB
  iapply (wp_gatherNth countersEmb 𝒱₀ (V d (cV L) (jV L)) none (default : HIx 1) 4096 Bd 1 (row_amount _) (by decide) (hin 1) (fun j => .rfl)) $$ [Hy1 Hv1 Hl1 HB]
  · isplitl [Hy1]; · rw [allM_set]; iexact Hy1
    isplitl [Hv1]; · iexact Hv1
    isplitl [Hl1]; · iexact Hl1
    iexact HB
  iintro HB
  iapply (wp_gatherNth countersEmb 𝒱₀ (V d (cV L) (jV L)) none (default : HIx 1) 4096 Bd 2 (row_amount _) (by decide) (hin 2) (fun j => .rfl)) $$ [Hy2 Hv2 Hl2 HB]
  · isplitl [Hy2]; · rw [allM_set]; iexact Hy2
    isplitl [Hv2]; · iexact Hv2
    isplitl [Hl2]; · iexact Hl2
    iexact HB
  iintro HB
  iapply (wp_gatherNth countersEmb 𝒱₀ (V d (cV L) (jV L)) none (default : HIx 1) 4096 Bd 3 (row_amount _) (by decide) (hin 3) (fun j => .rfl)) $$ [Hy3 Hv3 Hl3 HB]
  · isplitl [Hy3]; · rw [allM_set]; iexact Hy3
    isplitl [Hv3]; · iexact Hv3
    isplitl [Hl3]; · iexact Hl3
    iexact HB
  iintro HB
  rw [await_bind]
  iapply (wp_waitNth countersEmb 𝒱₀ (V d (cV L) (jV L)) none (default : HIx 1) (m := 4) (o := 128) (0 : Fin 4) (hJ 0)) $$ [HB HO]
  · isplitl [HB]; · iexact HB
    isplitl [HO]; · iexact HO
    iapply (Transfers.MayWaits.elim (SemLoc.dma cc1_scratch3.sem)) $$ Hmw
  iintro ⟨HB, HO⟩
  rw [await_bind]
  iapply (wp_waitNth countersEmb 𝒱₀ (V d (cV L) (jV L)) none (default : HIx 1) (m := 4) (o := 128) (1 : Fin 4) (hJ 1)) $$ [HB HO]
  · isplitl [HB]; · iexact HB
    isplitl [HO]; · iexact HO
    iapply (Transfers.MayWaits.elim (SemLoc.dma cc1_scratch3.sem)) $$ Hmw
  iintro ⟨HB, HO⟩
  rw [await_bind]
  iapply (wp_waitNth countersEmb 𝒱₀ (V d (cV L) (jV L)) none (default : HIx 1) (m := 4) (o := 128) (2 : Fin 4) (hJ 2)) $$ [HB HO]
  · isplitl [HB]; · iexact HB
    isplitl [HO]; · iexact HO
    iapply (Transfers.MayWaits.elim (SemLoc.dma cc1_scratch3.sem)) $$ Hmw
  iintro ⟨HB, HO⟩
  rw [await_ret]
  iapply (wp_waitLast countersEmb 𝒱₀ (V d (cV L) (jV L)) none (default : HIx 1) (m := 3) (o := 128) (hJ 3) (by decide)) $$ [HB HO]
  · isplitl [HB]; · iexact HB
    isplitl [HO]; · iexact HO
    iapply (Transfers.MayWaits.elim (SemLoc.dma cc1_scratch3.sem)) $$ Hmw
  iintro ⟨HD, Hs, HO⟩
  ihave HD := (show (bigSep Finset.univ fun b : Fin (3 + 1) => bigSep Finset.univ fun j : Fin 128 => Bd b j) ⊢ _ from
    Entails.of_eq (bigSep_four (fun b => bigSep Finset.univ (Bd b)))) $$ HD
  icases HD with ⟨HD0, HD1, HD2, HD3⟩
  ihave HJ0 := (gatherPart_join (F := F) (V d (cV L) (jV L)) (allM yV) (dM 0) gathers_S81920x128_S128x128 (lstM l (r 0) (hr 0)) rfl
    _ _ fy fv fl _ (hin 0)) $$ HD0
  icases HJ0 with ⟨Hv0, Hy0, Hl0⟩
  ihave Hl0 := Hlb0 $$ Hl0
  ihave Hv0 := (Entails.of_eq (pointsTo_congr (dM_write d L 0 fy fv _ hin))) $$ Hv0
  rw [allM_set]
  ihave HJ1 := (gatherPart_join (F := F) (V d (cV L) (jV L)) (allM yV) (dM 1) gathers_S81920x128_S128x128 (lstM l (r 1) (hr 1)) rfl
    _ _ fy fv fl _ (hin 1)) $$ HD1
  icases HJ1 with ⟨Hv1, Hy1, Hl1⟩
  ihave Hl1 := Hlb1 $$ Hl1
  ihave Hv1 := (Entails.of_eq (pointsTo_congr (dM_write d L 1 fy fv _ hin))) $$ Hv1
  rw [allM_set]
  ihave HJ2 := (gatherPart_join (F := F) (V d (cV L) (jV L)) (allM yV) (dM 2) gathers_S81920x128_S128x128 (lstM l (r 2) (hr 2)) rfl
    _ _ fy fv fl _ (hin 2)) $$ HD2
  icases HJ2 with ⟨Hv2, Hy2, Hl2⟩
  ihave Hl2 := Hlb2 $$ Hl2
  ihave Hv2 := (Entails.of_eq (pointsTo_congr (dM_write d L 2 fy fv _ hin))) $$ Hv2
  rw [allM_set]
  ihave HJ3 := (gatherPart_join (F := F) (V d (cV L) (jV L)) (allM yV) (dM 3) gathers_S81920x128_S128x128 (lstM l (r 3) (hr 3)) rfl
    _ _ fy fv fl _ (hin 3)) $$ HD3
  icases HJ3 with ⟨Hv3, Hy3, Hl3⟩
  ihave Hl3 := Hlb3 $$ Hl3
  ihave Hv3 := (Entails.of_eq (pointsTo_congr (dM_write d L 3 fy fv _ hin))) $$ Hv3
  rw [allM_set]
  iapply (le_wp_ret frame (wpE (defs₀ (F := F)) 𝒱₀ (V d (cV L) (jV L)) none) Set.univ PUnit.unit _)
  isplitl [Hy0 Hy1 Hy2 Hy3]
  · iapply (Entails.of_eq (pointsTo_piecesOf Finset.univ fy (by decide : 0 < 4) q).symm)
    rw [bigSep_four]
    isplitl [Hy0]; · iexact Hy0
    isplitl [Hy1]; · iexact Hy1
    isplitl [Hy2]; · iexact Hy2
    iexact Hy3
  isplitl [Hv0 Hv1 Hv2 Hv3]
  · iapply (Entails.of_eq (v_pieces d L _).symm)
    rw [bigSep_four]
    isplitl [Hv0]; · iexact Hv0
    isplitl [Hv1]; · iexact Hv1
    isplitl [Hv2]; · iexact Hv2
    iexact Hv3
  isplitl [Hl0 Hl1 Hl2 Hl3]
  · iapply (Entails.of_eq (pointsTo_piecesOf Finset.univ fl (by decide : 0 < 4) fullShare).symm)
    rw [bigSep_four]
    isplitl [Hl0]; · iexact Hl0
    isplitl [Hl1]; · iexact Hl1
    isplitl [Hl2]; · iexact Hl2
    iexact Hl3
  isplitl [Hs]; · iexact Hs
  iexists _
  isplitr [HO]; rotate_left
  · iexact HO
  · ipureintro
    intro p hp
    simp only [Finset.mem_insert] at hp
    rcases hp with rfl | rfl | rfl | rfl | hp
    · exact Or.inr rfl
    · exact Or.inr rfl
    · exact Or.inr rfl
    · exact Or.inr rfl
    · exact hW₁ p hp

end Four

end Cert.Proof.Gather

end
-- ==== Proof.Tile.lean ====
/-
  STEPS OF ONE TILE. The copies that fetch the two lists and store the row buffer, how tasks are chained, the words the
  fetched lists hold, and the rows they name.
-/
module
public import proofs.«01_k».proof.Proof.Gather

@[expose] public section

namespace Cert.Proof.Gather
open Cert.KernelIdeal
open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Streams

variable {F : FTy → Type} [FloatOps F]

local notation "𝕄" => MT nD τ sig (HIx 1) (Elt F) ℕ UU ℕ

/-- A write of a whole view, at a word of it. -/
theorem writes_all {κ : Kind} {sp : Space} {s : Shape} {e : EltTy} (v : View sig κ sp s e) (f : v.ty.Contents (Elt F)) (w : s.Idx → Elt F e) (i) (hi : i ∈ v.set) :
    v.writes (Elt F) f [⟨Rect.whole s, w⟩] i = v.write (Elt F) f w Finset.univ i := by
  obtain ⟨x, -, rfl⟩ := Finset.mem_map.mp hi
  rw [View.write_emb_of_mem f w (Finset.mem_univ x)]
  have hx : (Rect.whole s).emb x = x := funext fun a => Fin.ext (by show 0 + 1 * (x a).val = _; simp)
  have h := View.write_emb_of_mem (Val := Elt F) (v := v.slice (Rect.whole s)) f w (M := Finset.univ) (Finset.mem_univ x)
  rw [show (v.slice (Rect.whole s)).emb x = v.emb x from congrArg v.emb hx] at h
  exact h

section Copies

variable (d : Dev nD) (L : grid1.Coords)

/-- The fetch of a list's rows: the buffer ends holding the list's block. -/
theorem wp_fetch (s : Memref sig .scVector .hbm S256x128 .i32) (l : Memref sig .scVector .vmem S8x128 .i32) (hw : l.IsWhole)
    (sem : DmaSems sig S_) (q : PosShare TreeShare) (fs : Buf (Elt F) (s.view.loc (V d (cV L) (jV L)))) (fl : Buf (Elt F) (l.view.loc (V d (cV L) (jV L))))
    (O : CellTallies nD τ sig (HIx 1)) (W : Waits sig (HIx 1)) (hO : ∀ g, O g none = 0) :
    iprop(levAts (K (F := F)).L (K (F := F)).lev ∗ ((srcM L s).view.loc (V d (cV L) (jV L)) ↦[(srcM L s).view.set]{q} fs) ∗ (l.view.loc (V d (cV L) (jV L)) ↦[l.view.set]{fullShare} fl)
        ∗ semVal ((V d (cV L) (jV L)), .dma sem.sem) 0 ∗ owesFrom d L O W)
      ⊢ wp frame (wpE (defs₀ (F := F)) 𝒱₀ (V d (cV L) (jV L)) none) Set.univ (fetch L s l hw sem)
          fun _ => (iprop(((srcM L s).view.loc (V d (cV L) (jV L)) ↦[(srcM L s).view.set]{q} fs) ∗ (l.view.loc (V d (cV L) (jV L)) ↦[l.view.set]{fullShare} l.view.write (Elt F) fl ((srcM L s).view.read (Elt F) fs) Finset.univ)
            ∗ semVal ((V d (cV L) (jV L)), .dma sem.sem) 0
            ∗ owesFrom d L O W) : sProp 𝕄) := by
  unfold fetch owesFrom
  iintro ⟨#Hlv, Hsrc, Hl, Hs, ⟨%W₁, %hW₁, HO⟩⟩
  ihave Hmw := (show levAts (K (F := F)).L (K (F := F)).lev ⊢ Transfers.MayWaits (V d (cV L) (jV L)) (default : HIx 1) O from
    (K (F := F)).mayWaits_none (thr := (V d (cV L) (jV L))) hO) $$ Hlv
  sl_exec
  sl_step
  ihave Hl := (Entails.of_eq (pointsTo_congr (q := fullShare) (ℓ := l.view.loc (V d (cV L) (jV L))) (writes_all (F := F) l.view fl _))) $$ Hl
  isplitl [Hsrc]; · iexact Hsrc
  isplitl [Hl]; · iexact Hl
  isplitl [Hs]; · iexact Hs
  iexists _
  isplitr [HO]; rotate_left
  · iexact HO
  · ipureintro
    intro p hp
    rcases Finset.mem_insert.mp hp with rfl | hp
    · exact Or.inr rfl
    · exact hW₁ p hp

/-- The write-out of the row buffer: the block of the result ends holding it. -/
theorem wp_store (v : Memref sig .scVector .vmem S512x128 .f32) (hw : v.IsWhole) (o : Memref sig .scVector .hbm S32768x128 .f32) (h : Fin 2)
    (sem : DmaSems sig S_) (fv : Buf (Elt F) (v.view.loc (V d (cV L) (jV L)))) (fo : Buf (Elt F) (o.view.loc (V d (cV L) (jV L))))
    (O : CellTallies nD τ sig (HIx 1)) (W : Waits sig (HIx 1)) (hO : ∀ g, O g none = 0) :
    iprop(levAts (K (F := F)).L (K (F := F)).lev ∗ (v.view.loc (V d (cV L) (jV L)) ↦[v.view.set]{fullShare} fv) ∗ ((outM L o h).view.loc (V d (cV L) (jV L)) ↦[(outM L o h).view.set]{fullShare} fo)
        ∗ semVal ((V d (cV L) (jV L)), .dma sem.sem) 0 ∗ owesFrom d L O W)
      ⊢ wp frame (wpE (defs₀ (F := F)) 𝒱₀ (V d (cV L) (jV L)) none) Set.univ (store L v hw o h sem)
          fun _ => (iprop((v.view.loc (V d (cV L) (jV L)) ↦[v.view.set]{fullShare} fv)
            ∗ ((outM L o h).view.loc (V d (cV L) (jV L)) ↦[(outM L o h).view.set]{fullShare} (outM L o h).view.write (Elt F) fo (v.view.read (Elt F) fv) Finset.univ)
            ∗ semVal ((V d (cV L) (jV L)), .dma sem.sem) 0
            ∗ owesFrom d L O W) : sProp 𝕄) := by
  unfold store owesFrom
  iintro ⟨#Hlv, Hv, Ho, Hs, ⟨%W₁, %hW₁, HO⟩⟩
  ihave Hmw := (show levAts (K (F := F)).L (K (F := F)).lev ⊢ Transfers.MayWaits (V d (cV L) (jV L)) (default : HIx 1) O from
    (K (F := F)).mayWaits_none (thr := (V d (cV L) (jV L))) hO) $$ Hlv
  sl_exec
  sl_step
  ihave Ho := (Entails.of_eq (pointsTo_congr (q := fullShare) (ℓ := (outM L o h).view.loc (V d (cV L) (jV L))) (writes_all (F := F) (outM L o h).view fo _))) $$ Ho
  isplitl [Hv]; · iexact Hv
  isplitl [Ho]; · iexact Ho
  isplitl [Hs]; · iexact Hs
  iexists _
  isplitr [HO]; rotate_left
  · iexact HO
  · ipureintro
    intro p hp
    rcases Finset.mem_insert.mp hp with rfl | hp
    · exact Or.inr rfl
    · exact hW₁ p hp

/-- A step, then the rest. -/
theorem wp_then {α β : Type} {P : sProp 𝕄} {Q : α → sProp 𝕄} {R : β → sProp 𝕄} {p : Prog (TpuEff nD τ sig (Elt F) Λ₀ (Tile L)) α}
    {k : α → Prog (TpuEff nD τ sig (Elt F) Λ₀ (Tile L)) β} (h : P ⊢ wp frame (wpE (defs₀ (F := F)) 𝒱₀ (V d (cV L) (jV L)) none) Set.univ p Q) :
    P ⊢ iprop((∀ a, Q a -∗ wp frame (wpE (defs₀ (F := F)) 𝒱₀ (V d (cV L) (jV L)) none) Set.univ (k a) R)
      -∗ wp frame (wpE (defs₀ (F := F)) 𝒱₀ (V d (cV L) (jV L)) none) Set.univ (p >>= k) R) := by
  rw [wp_bind]
  exact h.trans (wp_wand frame (wpE (defs₀ (F := F)) 𝒱₀ (V d (cV L) (jV L)) none) Set.univ)

/-! ## Values -/

/-- A word of a fetched list is the list's own. -/
theorem list_words (s : Memref sig .scVector .hbm S256x128 .i32) (l : Memref sig .scVector .vmem S8x128 .i32) (r : Fin 4 → ℕ)
    (hr : ∀ b, ∀ a, (![r b, 0] : Fin 2 → ℕ) a + S1x128.size a ≤ S8x128.size a) (fs : Buf (Elt F) (s.view.loc (V d (cV L) (jV L)))) (fl : Buf (Elt F) (l.view.loc (V d (cV L) (jV L))))
    (b : Fin 4) (x : S128.Idx) (hb : 16 * (L 1).val + 8 * (L 0).val + r b < 256) :
    words (F := F) d L l r hr (l.view.write (Elt F) fl ((srcM L s).view.read (Elt F) fs) Finset.univ) b x
      = s.view.read (Elt F) fs (at2 ⟨16 * (L 1).val + 8 * (L 0).val + r b, hb⟩ (x 0)) := by
  have e1 : (lstM l (r b) (hr b)).view.emb x = l.view.emb (at2 ⟨r b, hr b 0⟩ (x 0)) := by
    show l.view.emb ((Rect.unit (s := S8x128) ![r b, 0] S1x128.size (hr b)).emb (Shape.reshapeEquiv _ x)) = _
    rw [Shape.reshapeEquiv_eq_of_rowMajor (s := S1x128) (s' := S128) _ (x := x) (y := at2 0 (x 0)) (by
      rw [Shape.rowMajor_val_one, Shape.rowMajor_val_two]; show 0 * 128 + (x 0).val = _; omega)]
    congr 1
    funext a
    match a with
    | 0 => exact Fin.ext (show r b + 1 * 0 = r b by omega)
    | 1 => exact Fin.ext (show 0 + 1 * (x 0).val = (x 0).val by omega)
  have e2 : (srcM L s).view.emb (at2 ⟨r b, hr b 0⟩ (x 0)) = s.view.emb (at2 ⟨16 * (L 1).val + 8 * (L 0).val + r b, hb⟩ (x 0)) := by
    show s.view.emb ((Rect.unit (s := S256x128) (k1_off1 L) S8x128.size (k1_off1_inb L)).emb _) = _
    congr 1
    funext a
    match a with
    | 0 => exact Fin.ext (show k1_off1 L 0 + 1 * r b = 16 * (L 1).val + 8 * (L 0).val + r b by rw [k1_off1_eq]; show 16 * (L 1).val + 8 * (L 0).val + _ = _; omega)
    | 1 => exact Fin.ext (show k1_off1 L 1 + 1 * (x 0).val = (x 0).val by rw [k1_off1_eq]; show 0 + 1 * _ = _; omega)
  have e3 := congrFun (View.read_write_univ (Val := Elt F) (v := l.view) fl ((srcM L s).view.read (Elt F) fs)) (at2 ⟨r b, hr b 0⟩ (x 0))
  rw [View.read_apply] at e3
  unfold words
  rw [View.read_apply, e1]
  refine e3.trans ?_
  rw [View.read_apply, View.read_apply, e2]

/-- The rows of the table a list names. -/
def named (fy : S81920x128.Idx → F .f32) (fs : S256x128.Idx → BitVec 32) (h : ∀ j, (fs j).toNat < 81920) (x : S32768x128.Idx) : F .f32 :=
  fy (at2 ⟨(fs (at2 ⟨(x 0).val / 128, by have := (x 0).isLt; change _ < 32768 at this; omega⟩ ⟨(x 0).val % 128, Nat.mod_lt _ (by decide)⟩)).toNat, h _⟩ (x 1))

/-- A half's rows, gathered into the row buffer, are the rows the list names at the half's place. -/
theorem half_named (fy : S81920x128.Idx → F .f32) (fs : S256x128.Idx → BitVec 32) (hp : ∀ j, (fs j).toNat < 81920)
    (w : Fin 4 → S128.Idx → BitVec 32) (hin : ∀ b x, (w b x).toNat < 81920) (h : Fin 2)
    (hw : ∀ b x, w b x = fs (at2 ⟨16 * (L 1).val + 8 * (L 0).val + (4 * h.val + b.val), by
      have h0 : (L 0).val < 2 := (L 0).isLt
      have h1 : (L 1).val < 16 := (L 1).isLt
      omega⟩ (x 0))) (k : S512x128.Idx) (x : S32768x128.Idx)
    (hx : (x 0).val = 2048 * (L 1).val + 1024 * (L 0).val + 512 * h.val + (k 0).val) (hx1 : (x 1).val = (k 1).val) :
    gathered fy w hin k = named fy fs hp x := by
  have hk : (k 0).val < 512 := (k 0).isLt
  unfold gathered named
  congr 1
  funext a
  match a with
  | 0 =>
    refine Fin.ext ?_
    show (w _ _).toNat = (fs _).toNat
    rw [hw]
    congr 2
    funext a
    match a with
    | 0 => refine Fin.ext ?_; show 16 * _ + 8 * _ + (4 * h.val + (k 0).val / 128) = (x 0).val / 128; omega
    | 1 => refine Fin.ext ?_; show (k 0).val % 128 = (x 0).val % 128; omega
  | 1 => exact Fin.ext hx1.symm

end Copies

end Cert.Proof.Gather
end
-- ==== Proof.Tasks.lean ====
/-
  THE TASKS OF THE GATHER CALL. Every tile gets a read share of the table and of both lists, and its two blocks of
  512 rows of either result; it brings the blocks back holding the rows the lists name. Put together, the results hold
  `named` everywhere, and the arguments are what they were.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Streams

variable {F : FTy → Type} [FloatOps F]

local notation "𝕄" => MT nD τ sig (HIx 1) (Elt F) ℕ UU ℕ

variable (m : (ℓ : Loc nD τ sig) → Buf (Elt F) ℓ) (ρ : Dev nD → PrngReg)

/-- The table. -/
abbrev yLoc (d : Dev nD) : Loc nD τ sig := (SparseCore.T d).loc main_v4
/-- The first list. -/
abbrev sLoc (d : Dev nD) : Loc nD τ sig := (SparseCore.T d).loc main_arg3
/-- The second list. -/
abbrev tLoc (d : Dev nD) : Loc nD τ sig := (SparseCore.T d).loc main_arg4
/-- The first list's result. -/
abbrev oLoc (d : Dev nD) : Loc nD τ sig := (SparseCore.T d).loc main_v5_0
/-- The second list's result. -/
abbrev pLoc (d : Dev nD) : Loc nD τ sig := (SparseCore.T d).loc main_v5_1

/-- What the proof asks of the launch memory: every word of either list names a row of the table. -/
def PreOK : Prop := ∀ d : Dev nD, (∀ j : S256x128.Idx, (m (sLoc d) j).toNat < 81920) ∧ ∀ j : S256x128.Idx, (m (tLoc d) j).toNat < 81920

variable {m} in
/-- What the first result ends holding. -/
abbrev oFin (h : PreOK m) (d : Dev nD) : Buf (Elt F) (oLoc d) := named (F := F) (m (yLoc d)) (m (sLoc d)) (h d).1
variable {m} in
/-- What the second result ends holding. -/
abbrev pFin (h : PreOK m) (d : Dev nD) : Buf (Elt F) (pLoc d) := named (F := F) (m (yLoc d)) (m (tLoc d)) (h d).2

/-! ## The blocks of the results -/

/-- A result is 64 parts. -/
theorem odiv : 64 ∣ S32768x128.size 0 := ⟨512, rfl⟩
/-- Part `p` of a result. -/
abbrev oPart (p : Fin 64) : Finset S32768x128.Idx := (Rect.part (s := S32768x128) (a₀ := 0) odiv p).set

/-- The block that tile `i` of core `c` writes in half `h`. -/
abbrev blk (c : Fin 2) (i : Fin 16) (h : Fin 2) : Fin 64 := ⟨4 * i.val + 2 * c.val + h.val, by omega⟩

/-- Every block is one half of one tile. -/
def blkEquiv : Fin 2 × Fin 16 × Fin 2 ≃ Fin 64 where
  toFun p := blk p.1 p.2.1 p.2.2
  invFun b := (⟨b.val / 2 % 2, by omega⟩, ⟨b.val / 4, by omega⟩, ⟨b.val % 2, by omega⟩)
  left_inv p := by
    obtain ⟨c, i, h⟩ := p
    refine Prod.ext (Fin.ext ?_) (Prod.ext (Fin.ext ?_) (Fin.ext ?_)) <;> simp only <;> omega
  right_inv b := Fin.ext (by simp only; omega)

/-- The task's core. -/
abbrev lc (L : grid1.Coords) : Fin 2 := L 0
/-- The task's subcore. -/
abbrev li (L : grid1.Coords) : Fin 16 := L 1

/-- The rows a task writes are its block's. -/
theorem outSet_eq (L : grid1.Coords) (h : Fin 2) :
    (Rect.unit (s := S32768x128) (k1_off2 L (BitVec.ofNat 32 (512 * h.val))) S512x128.size (k1_off2_inb L h)).set = oPart (blk (lc L) (li L) h) := by
  unfold oPart Rect.part Rect.block
  refine unit_set_congr (funext fun a => ?_) (funext fun a => ?_)
  · rw [k1_off2_eq]
    match a with
    | 0 =>
      show 2048 * (L 1).val + 1024 * (L 0).val + 512 * h.val = (4 * (L 1).val + 2 * (L 0).val + h.val) * 512
      omega
    | 1 => rfl
  · match a with
    | 0 => rfl
    | 1 => rfl

/-- So of the first list's result. -/
theorem oSet_eq (L : grid1.Coords) (h : Fin 2) : (outM L oV h).view.set = oPart (blk (lc L) (li L) h) := by
  show ((View.whole (main_v5_0_scv : Ref sig .scVector)).slice _).set = _
  rw [View.set_slice]
  exact Eq.trans Finset.map_refl (outSet_eq L h)
/-- So of the second list's result. -/
theorem pSet_eq (L : grid1.Coords) (h : Fin 2) : (outM L pV h).view.set = oPart (blk (lc L) (li L) h) := by
  show ((View.whole (main_v5_1_scv : Ref sig .scVector)).slice _).set = _
  rw [View.set_slice]
  exact Eq.trans Finset.map_refl (outSet_eq L h)

/-- A core runs 16 tasks. -/
theorem nSub_zero : (K (F := F)).nSub 0 = 16 := rfl
/-- The gather runs on two cores. -/
theorem nCore_zero : (K (F := F)).nCore 0 = 2 := rfl

/-! ## What the handshakes carry -/

/-- The share of a buffer that tile `i` of core `c` reads. -/
abbrev tq (c : Fin 2) (i : Fin 16) : PosShare TreeShare := pieceOf (pieceOf fullShare 2 (by decide) c) 16 (by decide) i

/-- A tile's read shares. -/
def argsT (d : Dev nD) (c : Fin 2) (i : Fin 16) : sProp 𝕄 :=
  iprop((yLoc d ↦{tq c i} m (yLoc d)) ∗ (sLoc d ↦{tq c i} m (sLoc d)) ∗ (tLoc d ↦{tq c i} m (tLoc d)))
/-- A tile's blocks of the results, at given contents. -/
def outT (d : Dev nD) (c : Fin 2) (i : Fin 16) (f : Buf (Elt F) (oLoc d)) (g : Buf (Elt F) (pLoc d)) : sProp 𝕄 :=
  iprop((oLoc d ↦[oPart (blk c i 0)]{fullShare} f) ∗ (oLoc d ↦[oPart (blk c i 1)]{fullShare} f)
    ∗ (pLoc d ↦[oPart (blk c i 0)]{fullShare} g) ∗ (pLoc d ↦[oPart (blk c i 1)]{fullShare} g))
/-- What a tile is handed. -/
def goT (d : Dev nD) (c : Fin 2) (i : Fin 16) : sProp 𝕄 := iprop(argsT m d c i ∗ outT d c i (m (oLoc d)) (m (pLoc d)))
variable {m} in
/-- What a tile brings back. -/
def tdT (hpre : PreOK m) (d : Dev nD) (c : Fin 2) (i : Fin 16) : sProp 𝕄 := iprop(argsT m d c i ∗ outT d c i (oFin hpre d) (pFin hpre d))

/-- It may be kept in an invariant. -/
instance goT_storable (d : Dev nD) (c : Fin 2) (i : Fin 16) : Storable (upEmb : UEmb _ 𝕄) (goT m d c i) := by
  unfold goT argsT outT; infer_instance
/-- It may be kept in an invariant. -/
instance tdT_storable (hpre : PreOK m) (d : Dev nD) (c : Fin 2) (i : Fin 16) : Storable (upEmb : UEmb _ 𝕄) (tdT hpre d c i) := by
  unfold tdT argsT outT; infer_instance

/-- A core takes and brings back what its tiles do. -/
def P (hpre : PreOK m) : (K (F := F)).Pay (nD := nD) (Val := Elt F) (Name := ℕ) (U := UU) where
  st := fun q d c => match q with | 0 => bigSep Finset.univ fun i : Fin 16 => goT m d (Fin.cast nCore_zero c) i
  dn := fun q d c => match q with | 0 => bigSep Finset.univ fun i : Fin 16 => tdT hpre d (Fin.cast nCore_zero c) i
  go := fun q d c i => match q with | 0 => goT m d (Fin.cast nCore_zero c) (Fin.cast nSub_zero i)
  td := fun q d c i => match q with | 0 => tdT hpre d (Fin.cast nCore_zero c) (Fin.cast nSub_zero i)
  x := fun _ _ => iprop(emp)

/-- All of it may be kept in invariants. -/
instance P_storable (hpre : PreOK m) : (P (F := F) m hpre).IsStorable where
  st q d c := match q with
    | 0 => (inferInstance : BI.Storable (upEmb : UEmb _ 𝕄) (bigSep Finset.univ fun i : Fin 16 => goT m d (Fin.cast nCore_zero c) i))
  dn q d c := match q with
    | 0 => (inferInstance : BI.Storable (upEmb : UEmb _ 𝕄) (bigSep Finset.univ fun i : Fin 16 => tdT hpre d (Fin.cast nCore_zero c) i))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT hpre d (Fin.cast nCore_zero c) (Fin.cast nSub_zero i)))

/-! ## The task's own buffers and semaphores -/

section Own

variable (d : Dev nD) (L : grid1.Coords)

/-- The task's DMA semaphores. -/
abbrev tsem : Fin 7 → DmaSem sig := ![cc1_scratch3.sem, cc1_scoped0.sem, cc1_scoped1.sem, cc1_scoped2.sem, cc1_scoped3.sem, cc1_scoped4.sem, cc1_scoped5.sem]
/-- The task's buffers. -/
abbrev tbuf : Fin 3 → Ref sig .scVector := ![cc1_scratch0, cc1_scratch1, cc1_scratch2]

/-- The subcore's semaphores are the task's seven and others. -/
theorem ownSems0_V :
    ∃ R : sProp 𝕄, (ownSems0 (V d (cV L) (jV L)) : sProp 𝕄) = iprop((bigSep Finset.univ fun k : Fin 7 => semVal ((V d (cV L) (jV L)), .dma (tsem k)) 0) ∗ R) := by
  have hinj : Function.Injective fun k : Fin 7 => (((V d (cV L) (jV L)), .dma (tsem k)) : GSem nD τ sig) := fun a b h => by
    have h1 : (SemLoc.dma (tsem a) : SemLoc sig) = .dma (tsem b) := congrArg (fun g : GSem nD τ sig => g.2) h
    have h2 : ∀ a b : Fin 7, (SemLoc.dma (tsem a) : SemLoc sig) = .dma (tsem b) → a = b := by decide
    exact h2 a b h1
  have hs : ∀ k : Fin 7, (SemLoc.dma (tsem k) : SemLoc sig).isScoped .scVector = true := by decide
  refine ⟨bigSep (ownCells (V d (cV L) (jV L)) \ Finset.univ.map ⟨_, hinj⟩) fun g => semVal g 0, ?_⟩
  unfold ownSems0
  rw [bigSep_sdiff_split (s := ownCells (V d (cV L) (jV L))) (t := Finset.univ.map ⟨_, hinj⟩) (fun g hg => by
    obtain ⟨k, -, rfl⟩ := Finset.mem_map.mp hg
    exact mem_ownCells.mpr ⟨rfl, hs k⟩), bigSep_map]
  rfl

/-- The subcore's buffers are the task's three and others. -/
theorem ownBufs_V :
    ∃ R : sProp 𝕄, (ownBufs (V d (cV L) (jV L)) : sProp 𝕄) = iprop((bigSep Finset.univ fun k : Fin 3 => iprop(∃ f, (V d (cV L) (jV L)).loc (tbuf k) ↦{fullShare} f)) ∗ R) := by
  have hinj : Function.Injective fun k : Fin 3 => (Proc.scVector (cV L) (jV L)).devRef (tbuf k) := fun a b h => by
    have h1 := Proc.devRef_injective _ h
    have h2 : ∀ a b : Fin 3, tbuf a = tbuf b → a = b := by decide
    exact h2 a b h1
  have hs : ∀ k : Fin 3, ((Proc.scVector (cV L) (jV L)).devRef (tbuf k)).owner = .proc (.scVector (cV L) (jV L)) := fun k => by
    match k with
    | 0 => rfl
    | 1 => rfl
    | 2 => rfl
  refine ⟨bigSep (ownRefs (τ := τ) (.scVector (cV L) (jV L)) \ Finset.univ.map ⟨_, hinj⟩) fun b => iprop(∃ f, ((d, b) : Loc nD τ sig) ↦{fullShare} f), ?_⟩
  unfold ownBufs
  rw [bigSep_sdiff_split (s := ownRefs (τ := τ) (.scVector (cV L) (jV L))) (t := Finset.univ.map ⟨_, hinj⟩) (fun g hg => by
    obtain ⟨k, -, rfl⟩ := Finset.mem_map.mp hg
    exact SparseCore.Cfg.mem_ownRefs_of_owner (hs k)), bigSep_map]
  rfl

end Own

section Task

variable (d : Dev nD) (L : grid1.Coords)

/-- The block of result 0 that a half is written to ends holding what the result is to hold. -/
theorem o_block (hpre : PreOK m) (h : Fin 2) (w : Fin 4 → S128.Idx → BitVec 32) (hin : ∀ b x, (w b x).toNat < 81920)
    (hw : ∀ b x, w b x = m (sLoc d) (at2 ⟨16 * (L 1).val + 8 * (L 0).val + (4 * h.val + b.val), by
      have h0 : (L 0).val < 2 := (L 0).isLt
      have h1 : (L 1).val < 16 := (L 1).isLt
      omega⟩ (x 0))) (fo : Buf (Elt F) (oLoc d)) (i) (hi : i ∈ (outM L oV h).view.set) :
    (outM L oV h).view.write (Elt F) fo ((vV).view.read (Elt F) (gathered (m (yLoc d)) w hin)) Finset.univ i = oFin hpre d i := by
  obtain ⟨k, -, rfl⟩ := Finset.mem_map.mp hi
  refine (View.write_emb_of_mem (Val := Elt F) (v := (outM L oV h).view) fo _ (Finset.mem_univ k)).trans ?_
  refine half_named L (m (yLoc d)) (m (sLoc d)) _ w hin h hw k _ ?_ ?_
  · show k1_off2 L (BitVec.ofNat 32 (512 * h.val)) 0 + 1 * (k 0).val = _
    rw [k1_off2_eq]
    show 2048 * (L 1).val + 1024 * (L 0).val + 512 * h.val + 1 * (k 0).val = _
    omega
  · show k1_off2 L (BitVec.ofNat 32 (512 * h.val)) 1 + 1 * (k 1).val = _
    rw [k1_off2_eq]
    show 0 + 1 * (k 1).val = _
    omega

/-- The block of result 1 that a half is written to ends holding what the result is to hold. -/
theorem p_block (hpre : PreOK m) (h : Fin 2) (w : Fin 4 → S128.Idx → BitVec 32) (hin : ∀ b x, (w b x).toNat < 81920)
    (hw : ∀ b x, w b x = m (tLoc d) (at2 ⟨16 * (L 1).val + 8 * (L 0).val + (4 * h.val + b.val), by
      have h0 : (L 0).val < 2 := (L 0).isLt
      have h1 : (L 1).val < 16 := (L 1).isLt
      omega⟩ (x 0))) (fo : Buf (Elt F) (pLoc d)) (i) (hi : i ∈ (outM L pV h).view.set) :
    (outM L pV h).view.write (Elt F) fo ((vV).view.read (Elt F) (gathered (m (yLoc d)) w hin)) Finset.univ i = pFin hpre d i := by
  obtain ⟨k, -, rfl⟩ := Finset.mem_map.mp hi
  refine (View.write_emb_of_mem (Val := Elt F) (v := (outM L pV h).view) fo _ (Finset.mem_univ k)).trans ?_
  refine half_named L (m (yLoc d)) (m (tLoc d)) _ w hin h hw k _ ?_ ?_
  · show k1_off2 L (BitVec.ofNat 32 (512 * h.val)) 0 + 1 * (k 0).val = _
    rw [k1_off2_eq]
    show 2048 * (L 1).val + 1024 * (L 0).val + 512 * h.val + 1 * (k 0).val = _
    omega
  · show k1_off2 L (BitVec.ofNat 32 (512 * h.val)) 1 + 1 * (k 1).val = _
    rw [k1_off2_eq]
    show 0 + 1 * (k 1).val = _
    omega

/-- The words of a fetched list. -/
theorem fetched (s : Memref sig .scVector .hbm S256x128 .i32) (l : Memref sig .scVector .vmem S8x128 .i32) (g : S256x128.Idx → BitVec 32)
    (fs : Buf (Elt F) (s.view.loc (V d (cV L) (jV L)))) (fl : Buf (Elt F) (l.view.loc (V d (cV L) (jV L)))) (hg : s.view.read (Elt F) fs = g)
    (h : Fin 2) (r : Fin 4 → ℕ) (hr : ∀ b, ∀ a, (![r b, 0] : Fin 2 → ℕ) a + S1x128.size a ≤ S8x128.size a) (hrh : ∀ b, r b = 4 * h.val + b.val) (b : Fin 4) (x : S128.Idx) :
    words (F := F) d L l r hr (l.view.write (Elt F) fl ((srcM L s).view.read (Elt F) fs) Finset.univ) b x
      = g (at2 ⟨16 * (L 1).val + 8 * (L 0).val + (4 * h.val + b.val), by
      have h0 : (L 0).val < 2 := (L 0).isLt
      have h1 : (L 1).val < 16 := (L 1).isLt
      omega⟩ (x 0)) := by
  have h0 : (L 0).val < 2 := (L 0).isLt
  have h1 : (L 1).val < 16 := (L 1).isLt
  have h2 := h.isLt
  have h3 := b.isLt
  refine (list_words d L s l r hr fs fl b x (by rw [hrh]; omega)).trans ?_
  subst hg
  simp only [hrh]

set_option maxHeartbeats 1000000 in
/-- A task: both lists fetched, and its blocks of the results left at the rows that the lists name. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (lc L) (li L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_body L yV (Memref.isWhole_whole _) sV (Memref.isWhole_whole _) tV (Memref.isWhole_whole _)
            oV (Memref.isWhole_whole _) pV (Memref.isWhole_whole _) vV (Memref.isWhole_whole _) aV (Memref.isWhole_whole _) bV (Memref.isWhole_whole _)
            cc1_scratch3 cc1_scoped0 cc1_scoped1 cc1_scoped2 cc1_scoped3 cc1_scoped4 cc1_scoped5)
          fun _ => (iprop(tdT hpre d (lc L) (li L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  obtain ⟨Rs, hRs⟩ := ownSems0_V (F := F) d L
  obtain ⟨Rb, hRb⟩ := ownBufs_V (F := F) d L
  rw [body_eq, (K (F := F)).scopedBufs_V hF d (cV L) (jV L), SparseCore.Cfg.scopedSems0_V (Val := Elt F) d (cV L) (jV L), hRs, hRb]
  rw [bigSep_univ_succ (m := 6), bigSep_univ_succ (m := 5), bigSep_univ_succ (m := 4), bigSep_four, bigSep_univ_succ (m := 2), bigSep_univ_succ (m := 1), bigSep_univ_of_subsingleton (0 : Fin 1)]
  unfold goT argsT outT
  iintro ⟨#Hlv, -, ⟨⟨Hy, Hs, Ht⟩, Ho0, Ho1, Hp0, Hp1⟩, ⟨⟨⟨%fv, Hv⟩, ⟨%fa, Ha⟩, ⟨%fb, Hb⟩⟩, HRb⟩, ⟨⟨Hm, Hm0, Hm1, Hm2, Hm3, Hm4, Hm5⟩, HRs⟩, HO⟩
  have hv : (vV).view.set = Finset.univ := View.set_whole _
  have ha : (aV).view.set = Finset.univ := View.set_whole _
  have hb : (bV).view.set = Finset.univ := View.set_whole _
  let fla : Buf (Elt F) ((aV).view.loc (V d (cV L) (jV L))) := (aV).view.write (Elt F) fa ((srcM L sV).view.read (Elt F) (m (sLoc d))) Finset.univ
  let flb : Buf (Elt F) ((bV).view.loc (V d (cV L) (jV L))) := (bV).view.write (Elt F) fb ((srcM L tV).view.read (Elt F) (m (tLoc d))) Finset.univ
  have hwa0 := fetched d L sV aV (m (sLoc d)) (m (sLoc d)) fa rfl 0 ![0, 1, 2, 3] inb_low (by decide)
  have hwa1 := fetched d L sV aV (m (sLoc d)) (m (sLoc d)) fa rfl 1 ![4, 5, 6, 7] inb_high (by decide)
  have hwb0 := fetched d L tV bV (m (tLoc d)) (m (tLoc d)) fb rfl 0 ![0, 1, 2, 3] inb_low (by decide)
  have hwb1 := fetched d L tV bV (m (tLoc d)) (m (tLoc d)) fb rfl 1 ![4, 5, 6, 7] inb_high (by decide)
  have hia0 : ∀ b x, (words (F := F) d L aV ![0, 1, 2, 3] inb_low fla b x).toNat < 81920 := fun b x => by rw [hwa0]; exact (hpre d).1 _
  have hia1 : ∀ b x, (words (F := F) d L aV ![4, 5, 6, 7] inb_high fla b x).toNat < 81920 := fun b x => by rw [hwa1]; exact (hpre d).1 _
  have hib0 : ∀ b x, (words (F := F) d L bV ![0, 1, 2, 3] inb_low flb b x).toNat < 81920 := fun b x => by rw [hwb0]; exact (hpre d).2 _
  have hib1 : ∀ b x, (words (F := F) d L bV ![4, 5, 6, 7] inb_high flb b x).toNat < 81920 := fun b x => by rw [hwb1]; exact (hpre d).2 _
  ihave HO := (show owes (V d (cV L) (jV L)) O W ⊢ owesFrom (F := F) d L O W from by
    unfold owesFrom
    iintro HO
    iexists W
    isplitr [HO]; rotate_left
    · iexact HO
    · ipureintro; exact fun p hp => Or.inl hp) $$ HO
  ihave H' := (pointsTo_lend (q := tq (lc L) (li L)) (m (sLoc d)) (srcM L sV).view.set) $$ Hs
  icases H' with ⟨Hs, Hsb⟩
  iapply (wp_then d L (wp_fetch d L sV aV (Memref.isWhole_whole _) cc1_scoped0 (tq (lc L) (li L)) (m (sLoc d)) fa O W hO)) $$ [Hs Ha Hm0 HO]
  · isplitr; · iexact Hlv
    isplitl [Hs]; · iexact Hs
    isplitl [Ha]; · rw [ha]; iexact Ha
    isplitl [Hm0]; · iexact Hm0
    iexact HO
  iintro %_ ⟨Hs, Ha, Hm0, HO⟩
  ihave Hs := Hsb $$ Hs
  rw [ha]
  ihave H' := (pointsTo_lend (q := tq (lc L) (li L)) (m (tLoc d)) (srcM L tV).view.set) $$ Ht
  icases H' with ⟨Ht, Htb⟩
  iapply (wp_then d L (wp_fetch d L tV bV (Memref.isWhole_whole _) cc1_scoped1 (tq (lc L) (li L)) (m (tLoc d)) fb O W hO)) $$ [Ht Hb Hm1 HO]
  · isplitr; · iexact Hlv
    isplitl [Ht]; · iexact Ht
    isplitl [Hb]; · rw [hb]; iexact Hb
    isplitl [Hm1]; · iexact Hm1
    iexact HO
  iintro %_ ⟨Ht, Hb, Hm1, HO⟩
  ihave Ht := Htb $$ Ht
  rw [hb]
  iapply (wp_then d L (wp_four d L aV ![0, 1, 2, 3] inb_low (tq (lc L) (li L)) (m (yLoc d)) fv fla (hia0) O W hO)) $$ [Hy Hv Ha Hm HO]
  · isplitr; · iexact Hlv
    isplitl [Hy]; · iexact Hy
    isplitl [Hv]; · iexact Hv
    isplitl [Ha]; · iexact Ha
    isplitl [Hm]; · iexact Hm
    iexact HO
  iintro %_ ⟨Hy, Hv, Ha, Hm, HO⟩
  iapply (wp_then d L (wp_store d L vV (Memref.isWhole_whole _) oV 0 cc1_scoped2 _ (m (oLoc d)) O W hO)) $$ [Hv Ho0 Hm2 HO]
  · isplitr; · iexact Hlv
    isplitl [Hv]; · rw [hv]; iexact Hv
    isplitl [Ho0]; · rw [oSet_eq]; iexact Ho0
    isplitl [Hm2]; · iexact Hm2
    iexact HO
  iintro %_ ⟨Hv, Ho0, Hm2, HO⟩
  ihave Ho0 := (Entails.of_eq (pointsTo_congr (o_block m d L hpre 0 _ (hia0) (hwa0) _))) $$ Ho0
  rw [hv, oSet_eq]
  iapply (wp_then d L (wp_four d L aV ![4, 5, 6, 7] inb_high (tq (lc L) (li L)) (m (yLoc d)) _ fla (hia1) O W hO)) $$ [Hy Hv Ha Hm HO]
  · isplitr; · iexact Hlv
    isplitl [Hy]; · iexact Hy
    isplitl [Hv]; · iexact Hv
    isplitl [Ha]; · iexact Ha
    isplitl [Hm]; · iexact Hm
    iexact HO
  iintro %_ ⟨Hy, Hv, Ha, Hm, HO⟩
  iapply (wp_then d L (wp_store d L vV (Memref.isWhole_whole _) oV 1 cc1_scoped3 _ (m (oLoc d)) O W hO)) $$ [Hv Ho1 Hm3 HO]
  · isplitr; · iexact Hlv
    isplitl [Hv]; · rw [hv]; iexact Hv
    isplitl [Ho1]; · rw [oSet_eq]; iexact Ho1
    isplitl [Hm3]; · iexact Hm3
    iexact HO
  iintro %_ ⟨Hv, Ho1, Hm3, HO⟩
  ihave Ho1 := (Entails.of_eq (pointsTo_congr (o_block m d L hpre 1 _ (hia1) (hwa1) _))) $$ Ho1
  rw [hv, oSet_eq]
  iapply (wp_then d L (wp_four d L bV ![0, 1, 2, 3] inb_low (tq (lc L) (li L)) (m (yLoc d)) _ flb (hib0) O W hO)) $$ [Hy Hv Hb Hm HO]
  · isplitr; · iexact Hlv
    isplitl [Hy]; · iexact Hy
    isplitl [Hv]; · iexact Hv
    isplitl [Hb]; · iexact Hb
    isplitl [Hm]; · iexact Hm
    iexact HO
  iintro %_ ⟨Hy, Hv, Hb, Hm, HO⟩
  iapply (wp_then d L (wp_store d L vV (Memref.isWhole_whole _) pV 0 cc1_scoped4 _ (m (pLoc d)) O W hO)) $$ [Hv Hp0 Hm4 HO]
  · isplitr; · iexact Hlv
    isplitl [Hv]; · rw [hv]; iexact Hv
    isplitl [Hp0]; · rw [pSet_eq]; iexact Hp0
    isplitl [Hm4]; · iexact Hm4
    iexact HO
  iintro %_ ⟨Hv, Hp0, Hm4, HO⟩
  ihave Hp0 := (Entails.of_eq (pointsTo_congr (p_block m d L hpre 0 _ (hib0) (hwb0) _))) $$ Hp0
  rw [hv, pSet_eq]
  iapply (wp_then d L (wp_four d L bV ![4, 5, 6, 7] inb_high (tq (lc L) (li L)) (m (yLoc d)) _ flb (hib1) O W hO)) $$ [Hy Hv Hb Hm HO]
  · isplitr; · iexact Hlv
    isplitl [Hy]; · iexact Hy
    isplitl [Hv]; · iexact Hv
    isplitl [Hb]; · iexact Hb
    isplitl [Hm]; · iexact Hm
    iexact HO
  iintro %_ ⟨Hy, Hv, Hb, Hm, HO⟩
  ihave Hw := (wp_store d L vV (Memref.isWhole_whole _) pV 1 cc1_scoped5 _ (m (pLoc d)) O W hO) $$ [Hv Hp1 Hm5 HO]
  · isplitr; · iexact Hlv
    isplitl [Hv]; · rw [hv]; iexact Hv
    isplitl [Hp1]; · rw [pSet_eq]; iexact Hp1
    isplitl [Hm5]; · iexact Hm5
    iexact HO
  iapply (wp_wand frame (wpE (defs₀ (F := F)) 𝒱₀ (V d (cV L) (jV L)) none) Set.univ) $$ Hw
  iintro %_ ⟨Hv, Hp1, Hm5, HO⟩
  ihave Hp1 := (Entails.of_eq (pointsTo_congr (p_block m d L hpre 1 _ (hib1) (hwb1) _))) $$ Hp1
  rw [hv, pSet_eq]
  unfold tdT argsT outT
  isplitl [Hy Hs Ht Ho0 Ho1 Hp0 Hp1]
  · isplitl [Hy Hs Ht]
    · isplitl [Hy]; · iexact Hy
      isplitl [Hs]; · iexact Hs
      iexact Ht
    isplitl [Ho0]; · iexact Ho0
    isplitl [Ho1]; · iexact Ho1
    isplitl [Hp0]; · iexact Hp0
    iexact Hp1
  isplitl [Hv Ha Hb HRb]
  · isplitl [Hv Ha Hb]
    · isplitl [Hv]; · iexists _; iexact Hv
      isplitl [Ha]; · iexists _; iexact Ha
      iexists _; iexact Hb
    iexact HRb
  isplitl [Hm Hm0 Hm1 Hm2 Hm3 Hm4 Hm5 HRs]
  · isplitl [Hm Hm0 Hm1 Hm2 Hm3 Hm4 Hm5]
    · isplitl [Hm]; · iexact Hm
      isplitl [Hm0]; · iexact Hm0
      isplitl [Hm1]; · iexact Hm1
      isplitl [Hm2]; · iexact Hm2
      isplitl [Hm3]; · iexact Hm3
      isplitl [Hm4]; · iexact Hm4
      iexact Hm5
    iexact HRs
  unfold owesFrom
  iexact HO

/-! ## The obligation -/

/-- The coordinates of a task, by core and subcore. -/
def coordsV (c : Fin (grid1.bound 0)) (s : Fin (grid1.bound 1)) : grid1.Coords :=
  fun | 0 => c | 1 => s | ⟨_ + 2, h⟩ => absurd h (Nat.not_lt.2 (Nat.le_add_left _ _))

/-- The body a subcore runs. -/
theorem defs₀_vector (c : Fin τ.nSC) (s : Fin τ.nSub) :
    defs₀ (F := F) (.scVector c s) 1 ()
      = SparseCore.onTile hcore1 hsub1 (fun c s => cc1__gather_body (coordsV c s)
          yV (Memref.isWhole_whole _) sV (Memref.isWhole_whole _) tV (Memref.isWhole_whole _)
          oV (Memref.isWhole_whole _) pV (Memref.isWhole_whole _) vV (Memref.isWhole_whole _) aV (Memref.isWhole_whole _) bV (Memref.isWhole_whole _)
          cc1_scratch3 cc1_scoped0 cc1_scoped1 cc1_scoped2 cc1_scoped3 cc1_scoped4 cc1_scoped5) ⟨⟩ c s := rfl

/-- What a task may have waited on, as the obligation states it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Task

set_option maxRecDepth 16384 in
/-- A tile's run meets its obligation. -/
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- The tasks of a core, by their numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The cores of the gather, by their numbers. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core hands its tiles what it was handed, and brings back what they bring back. -/
theorem vecSplit (hpre : PreOK m) : (K (F := F)).VecSplit' (P m hpre) 0 := by
  intro d c
  show (bigSep Finset.univ fun i : Fin 16 => goT m d (Fin.cast nCore_zero c) i) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT hpre d (Fin.cast nCore_zero c) (Fin.cast nSub_zero i))
          -∗ bigSep Finset.univ fun i : Fin 16 => tdT hpre d (Fin.cast nCore_zero c) i))
  rw [bigSep_tasks (F := F) (fun i => goT m d (Fin.cast nCore_zero c) i), bigSep_tasks (F := F) (fun i => tdT hpre d (Fin.cast nCore_zero c) i)]
  iintro H; imodintro
  isplitl [H]; · iexact H
  iintro H; iexact H

/-! ## The arrays, split among the tiles and put together -/

/-- A buffer is the tiles' read shares of it. -/
theorem shares {ℓ : Loc nD τ sig} (f : Buf (Elt F) ℓ) :
    (ℓ ↦{fullShare} f : sProp 𝕄) = bigSep Finset.univ fun c : Fin 2 => bigSep Finset.univ fun i : Fin 16 => ℓ ↦{tq c i} f := by
  rw [pointsTo_piecesOf Finset.univ f (by decide : 0 < 2) fullShare]
  exact bigSep_congr fun c _ => pointsTo_piecesOf Finset.univ f (by decide : 0 < 16) _

/-- The 64 parts are every tile's two. -/
theorem blocks_of {Φ : Fin 64 → sProp 𝕄} :
    bigSep Finset.univ Φ = bigSep Finset.univ fun c : Fin 2 => bigSep Finset.univ fun i : Fin 16 => iprop(Φ (blk c i 0) ∗ Φ (blk c i 1)) := by
  rw [bigSep_univ_equiv blkEquiv, bigSep_univ_prod]
  refine bigSep_congr fun c _ => ?_
  rw [bigSep_univ_prod]
  refine bigSep_congr fun i _ => ?_
  rw [bigSep_univ_succ (m := 1), bigSep_univ_of_subsingleton (0 : Fin 1)]
  rfl

/-- The first list's result is the tiles' blocks of it. -/
theorem oBlocks (d : Dev nD) (f : Buf (Elt F) (oLoc d)) :
    (oLoc d ↦{fullShare} f : sProp 𝕄) = bigSep Finset.univ fun c : Fin 2 => bigSep Finset.univ fun i : Fin 16 =>
      iprop((oLoc d ↦[oPart (blk c i 0)]{fullShare} f) ∗ (oLoc d ↦[oPart (blk c i 1)]{fullShare} f)) := by
  rw [← blocks_of (Φ := fun b => (oLoc d ↦[oPart b]{fullShare} f : sProp 𝕄)),
    ← pointsTo_biUnion Finset.univ (ℓ := oLoc d) oPart (fun i _ j _ h => Rect.part_disjoint odiv h), Rect.biUnion_part odiv]
/-- The second list's result is the tiles' blocks of it. -/
theorem pBlocks (d : Dev nD) (f : Buf (Elt F) (pLoc d)) :
    (pLoc d ↦{fullShare} f : sProp 𝕄) = bigSep Finset.univ fun c : Fin 2 => bigSep Finset.univ fun i : Fin 16 =>
      iprop((pLoc d ↦[oPart (blk c i 0)]{fullShare} f) ∗ (pLoc d ↦[oPart (blk c i 1)]{fullShare} f)) := by
  rw [← blocks_of (Φ := fun b => (pLoc d ↦[oPart b]{fullShare} f : sProp 𝕄)),
    ← pointsTo_biUnion Finset.univ (ℓ := pLoc d) oPart (fun i _ j _ h => Rect.part_disjoint odiv h), Rect.biUnion_part odiv]

/-- Separation associates. -/
theorem sep_assoc_eq (A B C : sProp 𝕄) : iprop((A ∗ B) ∗ C) = iprop(A ∗ B ∗ C) :=
  BI.Entails.antisymm BI.sep_assoc (show (iprop(A ∗ B ∗ C) : sProp 𝕄) ⊢ iprop((A ∗ B) ∗ C) by
    iintro ⟨HA, HB, HC⟩
    isplitr [HC]
    · isplitl [HA] <;> iassumption
    · iexact HC)

/-- The five arrays are what the tiles take, or bring back. -/
theorem all_tiles (d : Dev nD) (f : Buf (Elt F) (oLoc d)) (g : Buf (Elt F) (pLoc d)) :
    (iprop((yLoc d ↦{fullShare} m (yLoc d)) ∗ (sLoc d ↦{fullShare} m (sLoc d)) ∗ (tLoc d ↦{fullShare} m (tLoc d))
        ∗ (oLoc d ↦{fullShare} f) ∗ (pLoc d ↦{fullShare} g)) : sProp 𝕄)
      = bigSep Finset.univ fun c : Fin 2 => bigSep Finset.univ fun i : Fin 16 => iprop(argsT m d c i ∗ outT d c i f g) := by
  rw [shares (m (yLoc d)), shares (m (sLoc d)), shares (m (tLoc d)), oBlocks, pBlocks]
  simp only [← bigSep_sep']
  refine bigSep_congr fun c _ => ?_
  refine bigSep_congr fun i _ => ?_
  unfold argsT outT
  simp only [sep_assoc_eq]

end Cert.Proof.Gather

end
-- ==== Proof.Region.lean ====
/-
  A TensorCore kernel's region inside the program: how it is entered from what the TensorCore holds between two
  calls, and what it leaves. The TensorCore holds every array whole, and what it still owes the SparseCore calls to
  come; a region owes nothing itself, so that debt passes through it, and its waits are all below it.
-/
module

public import proofs.«01_k».proof.Proof.Gather
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value
public import Idealize.ShloMosaic.Lib.SparseCore.Threads

@[expose] public section

noncomputable section

namespace Cert.Proof.Region

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Proof.Gather (K D 𝒱₀ 𝒱 UU EH EP)

variable {F : FTy → Type} [FloatOps F]

local notation "𝕄" => MT nD τ sig (HIx 1) (Elt F) ℕ UU ℕ

/-! ## What the TensorCore owes while a region runs -/

/-- The waits the TensorCore may have on record before call `n`. -/
def early (d : Dev nD) (n : ℕ) : Set (SemLoc sig × HIx 1) := {p | (K (F := F)).lev (T d, p.1) p.2 ≤ 8 * n}

/-- What it owes before call `n`, with its records. -/
def dues (d : Dev nD) (n : ℕ) : sProp 𝕄 :=
  iprop(∃ W, ⌜(K (F := F)).WBelow (T d) W (8 * n)⌝ ∗ owes (T d) ((K (F := F)).Otc d n) W)

/-- The rest of its state before call `n`. -/
def turn (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

/-- The TensorCore's state of the handshakes, in its two parts. -/
theorem tcSt_eq (d : Dev nD) (n : ℕ) : ((K (F := F)).tcSt EH d n : sProp 𝕄) = iprop(dues (F := F) d n ∗ turn (F := F) d n) := rfl

/-- The level a region waits at is below everything owed. -/
theorem owed_above {d : Dev nD} {n : ℕ} (g : GSem nD τ sig) (i : HIx 1) (h : 0 < (K (F := F)).Otc d n g i) :
    i ∈ (K (F := F)).L (N := 1) g ∧ 0 < (K (F := F)).lev g i :=
  ⟨Finset.mem_univ _, lt_of_lt_of_le (Nat.succ_pos _) (SparseCore.Cfg.lev_of_Otc_pos h)⟩

section Seg

variable (a : (p : Fin 2) → (pcfgs (F := F) p).Adm)
variable (pdats : (p : Fin 2) → (c : Dev nD) → Dat τ (Elt F) (HIx 1) ℕ UU ℕ (Pipeline.pin (pcfgs (F := F)) a p) c)
variable (n : ℕ) (V V' : (c : Dev nD) → (b : Ref sig .tc) → Buf (Elt F) ((c : Thread nD τ).loc b))

/-- What stays with a region between its points: the scoped buffers it does not stage, and its prefetched table. -/
abbrev kept (p : Fin 2) (c : Dev nD) : sProp 𝕄 :=
  iprop(Pipeline.scopedRest (Ix := HIx 1) (Name := ℕ) (U := UU) (Lvl := ℕ) (Val := Elt F) (Pipeline.pin (pcfgs (F := F)) a p).spec c
    ∗ Pipeline.prefHeld (pcfgs (F := F) p).pre c (fun _ => fullShare) (a p).1)

-- the library's lemmas are over the pinned pipeline's windows, the facts here over the printed ones: equal by unfolding
set_option backward.isDefEq.respectTransparency.types false in
/-- A region between the states "every array at `V`" and "every array at `V'`", before call `n`: `V'` has the region's
    arrays as its write-backs leave them and agrees with `V` elsewhere. -/
def seg (p : Fin 2) (hl : Pipeline.PLaunchFacts (nD := nD) (τ := τ) (pcfgs (F := F)) p)
    (hΦ : ∀ c t, (pdats p c).Φ t = kept a p c) (hshare : ∀ c w, (pdats p c).share w = fullShare)
    (howed : ∀ c t, (pdats p c).owed t = (K (F := F)).Otc c n) (hrec : ∀ c t, (pdats p c).recorded t = early (F := F) c n)
    (hA : ∀ c w, (pdats p c).A w = V c (Pipeline.arrRef (pcfgs (F := F) p).spec w))
    (htab : ∀ c, (fun k => V c ((pcfgs (F := F) p).pre.ref k)) = (a p).1)
    (hbody : ∀ c, Pipeline.BodyObligation (pdats p c) (defs₀ (F := F)) 𝒱₀ none Set.univ)
    (hout : ∀ c w, (pdats p c).arrAt w (Pipeline.pin (pcfgs (F := F)) a p).N = V' c (Pipeline.arrRef (Pipeline.pin (pcfgs (F := F)) a p).spec w))
    (hrest : ∀ c b, b ∉ Finset.univ.image (Pipeline.arrRef (Pipeline.pin (pcfgs (F := F)) a p).spec) → V' c b = V c b) :
    Pipeline.RegionSeg (pcfgs (F := F)) a pdats none defs₀ 𝒱₀ ((K (F := F)).L (N := 1)) ((K (F := F)).lev (N := 1)) p where
  win := hl.win.to₀
  block_pos := hl.block_pos
  stage_whole := hl.stage_whole
  K := PEmpty
  osem k := k.elim
  ho := Pipeline.OwnSemFacts.none _
  hbody c := (hbody c).loose
  hwaits c := Pipeline.cellsWaits_of_cut _ _ _ p c 0 ((K (F := F)).Otc c n) (howed c) (fun _ _ => Finset.mem_univ _) (fun _ _ => le_rfl) owed_above
  pre c := iprop(unscopedBufs c (V c) ∗ (K (F := F)).tcSt EH c n)
  post c := iprop(unscopedBufs c (V' c) ∗ (K (F := F)).tcSt EH c n)
  X _ := BI.emp
  Y c := Pipeline.prefHeld (pcfgs (F := F) p).pre c (fun _ => fullShare) (a p).1
  Z c := iprop(Pipeline.unscopedRestP (Ix := HIx 1) (Name := ℕ) (U := UU) (Lvl := ℕ) (pcfgs (F := F) p).pre (pcfgs (F := F) p).spec c (V c) ∗ turn (F := F) c n)
  hentry c := by
    rw [Pipeline.ownSems0_none, tcSt_eq]
    have hsplit := Pipeline.arrays_of_unscopedBufs (p := p) (pcfgs (F := F)) a pdats hl.win hl.arr_whole c (hshare c) (V c) (hA c)
    have htabs := Pipeline.unscopedRest_split (Ix := HIx 1) (Name := ℕ) (U := UU) (Lvl := ℕ) (τ := τ) hl.pre c (V c)
    iintro ⟨⟨Hub, HO, Hturn⟩, -, -⟩
    ihave H := hsplit $$ Hub
    icases H with ⟨Ha, Hrest⟩
    ihave Hrest := (Entails.of_eq htabs) $$ Hrest
    rw [htab c]
    icases Hrest with ⟨Htab, Hrest⟩
    imodintro
    isplitl [Ha]; · iexact Ha
    isplitl [Htab]; · iexact Htab
    isplitl [HO]
    · unfold Pipeline.Dat.owesAt Pipeline.owesWithin dues
      rw [howed c]
      icases HO with ⟨%W, %hW, HO⟩; iexists W; isplitr
      · ipureintro; intro x hx; refine Or.inl ?_; rw [hrec c]; exact hW x hx
      iexact HO
    isplitr; · iempintro
    isplitl [Hrest] <;> iassumption
  hin c := by
    rw [hΦ c]
    iintro ⟨-, Ht, Hr⟩
    isplitl [Hr] <;> iassumption
  hout c := by
    rw [Pipeline.ownSems0_none, hΦ c]
    iintro ⟨Hr, Ht⟩
    isplitl [Ht]; · iexact Ht
    isplitr; · iempintro
    iexact Hr
  hexit c := by
    rw [tcSt_eq]
    have hjoin := Pipeline.unscopedBufs_of_arrays (p := p) (pcfgs (F := F)) a (Ix := HIx 1) (Name := ℕ) (U := UU) (Lvl := ℕ) hl.win hl.arr_whole c
      pdats (hshare c) (V c) (V' c) ((pdats p c).arrAt · (Pipeline.pin (pcfgs (F := F)) a p).N) (hout c) (hrest c)
    have htabs := Pipeline.unscopedRest_split (Ix := HIx 1) (Name := ℕ) (U := UU) (Lvl := ℕ) (τ := τ) hl.pre c (V c)
    iintro ⟨Ha, HO, Ht, Hrest, Hturn⟩
    imodintro
    isplitl [Ha Hrest Ht]
    · iapply hjoin; isplitl [Ha]; · iexact Ha
      iapply (Entails.of_eq htabs.symm)
      rw [htab c]
      isplitl [Ht] <;> iassumption
    isplitl [HO]
    · unfold Pipeline.Dat.owesAt Pipeline.owesWithin dues
      rw [howed c]
      icases HO with ⟨%W, %hW, HO⟩; iexists W; isplitr
      · ipureintro
        intro x hx
        rcases hW hx with h | ⟨w, s, rfl⟩
        · rw [hrec c] at h; exact h
        · exact Nat.zero_le _
      iexact HO
    iexact Hturn

/-- The region run as a statement of the program. -/
theorem seg_wp [∀ e, Nonempty (Elt F e)] {p : Fin 2}
    (R : Pipeline.RegionSeg (pcfgs (F := F)) a pdats none defs₀ 𝒱₀ ((K (F := F)).L (N := 1)) ((K (F := F)).lev (N := 1)) p) (d : Dev nD)
    (Φ : PUnit → sProp 𝕄) :
    iprop((iprop(boundary (d.tc : Thread nD τ) ∗ R.post d) -∗ Φ ⟨⟩)
        ∗ boundary (d.tc : Thread nD τ) ∗ R.pre d ∗ levAts ((K (F := F)).L (N := 1)) ((K (F := F)).lev (N := 1))
        ∗ Pipeline.cellsGhost (Pipeline.pin (pcfgs (F := F)) a) EP p d ∗ Pipeline.toksInit (Pipeline.pin (pcfgs (F := F)) a) EP p d)
      ⊢ wp frame (wpE ((K (F := F)).defs (D (F := F))) 𝒱 (T d) none) Set.univ
          (Prog.lift (.customCall (SparseCore.inner (Pipeline.entry p)) ())) Φ := by
  have h := (K (F := F)).wp_liftProg (N := 1) (Name := ℕ) (U := UU) (D (F := F)) 𝒱 (T d) Set.univ none
    (.op (.customCall (Pipeline.entry p) ()) .ret : Prog (TpuEff nD τ sig (Elt F) (Pipeline.Sig Λ₀ (Fin 2) fun p => (pcfgs (F := F) p).Adm) .tc) PUnit) Φ
  iintro ⟨Hk, H⟩
  iapply h
  iapply (Pipeline.RegionSeg.wp (pcfgs (F := F)) a pdats none (cellOf_inj a) EP defs₀ 𝒱₀ _ _ R d none (fun _ h => nomatch h) .ret Φ)
  isplitr [H]
  · iintro Hp
    iapply (le_wp_ret frame _ Set.univ)
    iapply Hk; iexact Hp
  iexact H

end Seg

end Cert.Proof.Region

end
-- ==== Proof.Ffn.lean ====
/-
  The experts' kernel: one tile of 2048 dispatched rows at each point of the grid, through the two layers of the expert
  the table names for that tile. The table is fetched before the grid starts; the four blocks of weights of a point
  are the named expert's.
-/
module

public import proofs.«01_k».proof.Proof.Region
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof.Ffn

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Gather (K D 𝒱₀ 𝒱 UU EH EP at1 at2)
open Cert.Proof.Region (early kept)

variable {F : FTy → Type} [FloatOps F]

local notation "𝕄" => MT nD τ sig (HIx 1) (Elt F) ℕ UU ℕ

/-! ## The table -/

/-- The index of a word, by its three coordinates. -/
abbrev at3 {n k l : ℕ} (a : Fin n) (b : Fin k) (c : Fin l) : Shape.Idx ⟨3, ![n, k, l]⟩ := fun | 0 => a | 1 => b | 2 => c

/-- Every entry of the table names one of the eight experts. -/
def Named (e : S40.Idx → BitVec 32) : Prop := ∀ i, (e i).toNat < 8

/-- The expert of tile `t`. -/
def expert (e : S40.Idx → BitVec 32) (h : Named e) (t : Fin 40) : Fin 8 := ⟨(e (at1 t)).toNat, h _⟩

/-- The grid's coordinate as an index. -/
theorem coord_word : ∀ n : Fin 40, (Scalar.indexCast (BitVec.ofNat 32 n.val) : Index).toNat = n.val := by decide

/-- The word the weights' blocks are found by at a point: the table's at that point. -/
theorem word (pf : pre0.Contents (Elt F)) (i : grid0.Coords) : cc0_transform_1 k0_off1_inb numel1_S1 pf i 0 = (pf 0 (at1 (n := 40) (i 0))).toNat := by
  refine congrArg (fun j => (pf 0 j).toNat) (funext fun (b : Fin 1) => Fin.ext ?_)
  match b with
  | 0 =>
    have h1 : ∀ x : Fin 1, x.val = 0 := fun x => by omega
    have h0 : (Scalar.indexCast (BitVec.ofNat 32 (i 0).val) : Index).toNat = (i 0).val := coord_word (i 0)
    exact (congrArg₂ (fun p q => p + 1 * q) h0 (h1 _)).trans (by show (i 0).val + 1 * 0 = (i 0).val; omega)

/-- A table of experts is one the region admits: each block of weights is inside its array, and takes whole rows. -/
theorem admits (pf : pre0.Contents (Elt F)) (h : Named (pf 0)) : ok0 pf := by
  have hw : ∀ i : grid0.Coords, cc0_transform_1 k0_off1_inb numel1_S1 pf i 0 < 8 := fun i => by rw [word]; exact h _
  refine ⟨fun i => ⟨fun b => ?_, .inr (.inr ⟨by decide, rfl, Nat.zero_mul _, rfl⟩)⟩, fun i => ⟨fun b => ?_, .inl rfl⟩,
    fun i => ⟨fun b => ?_, .inr (.inr ⟨by decide, rfl, Nat.zero_mul _, rfl⟩)⟩, fun i => ⟨fun b => ?_, .inl rfl⟩⟩
  all_goals
    match b with
    | 0 => show (cc0_transform_1 k0_off1_inb numel1_S1 pf i 0 + 1) * 1 ≤ 8; have := hw i; omega
    | 1 => exact Nat.le_of_eq (Nat.one_mul _)
    | 2 => exact Nat.le_of_eq (Nat.one_mul _)

/-! ## The value -/

/-- The first 64 columns of a block of dispatched rows, as a rectangle. -/
abbrev rIn : Rect S2048x128 := Rect.unit (s := S2048x128) ![0, 0] S2048x64.size inb_S2048x128_S2048x64_0_0
/-- A whole block of the first weights, as a rectangle. -/
abbrev rW1 : Rect S1x64x256 := Rect.unit (s := S1x64x256) ![0, 0, 0] S1x64x256.size inb_S1x64x256_S1x64x256_0_0_0
/-- A whole block of the first biases, as a rectangle. -/
abbrev rB1 : Rect S1x1x256 := Rect.unit (s := S1x1x256) ![0, 0, 0] S1x1x256.size inb_S1x1x256_S1x1x256_0_0_0
/-- A whole block of the second weights, as a rectangle. -/
abbrev rW2 : Rect S1x256x64 := Rect.unit (s := S1x256x64) ![0, 0, 0] S1x256x64.size inb_S1x256x64_S1x256x64_0_0_0
/-- A whole block of the second biases, as a rectangle. -/
abbrev rB2 : Rect S1x1x64 := Rect.unit (s := S1x1x64) ![0, 0, 0] S1x1x64.size inb_S1x1x64_S1x1x64_0_0_0
/-- A whole block of the result, as a rectangle. -/
abbrev rOut : Rect S2048x128 := Rect.unit (s := S2048x128) ![0, 0] S2048x128.size inb_S2048x128_S2048x128_0_0

/-- The origin of a block, with two axes. -/
theorem zero2 : (![0, 0] : Fin 2 → Nat) = fun _ => 0 := funext fun a => match a with | 0 => rfl | 1 => rfl
/-- The origin of a block, with three axes. -/
theorem zero3 : (![0, 0, 0] : Fin 3 → Nat) = fun _ => 0 := funext fun a => match a with | 0 => rfl | 1 => rfl | 2 => rfl

/-- A block's rows without the padding features. -/
def front (x : Vec F S2048x128 .f32) : Vec F S2048x64 .f32 := fun y => x (at2 (y 0) (Fin.castLE (m := 128) (n := 64) (by decide) (y 1)))

/-- What the body loads of the dispatched rows is their first 64 columns. -/
theorem ld_in (x : Vec F S2048x128 .f32) : View.ld x rIn = front x := by
  refine funext fun y => congrArg x (funext fun a => Fin.ext ?_)
  match a with
  | 0 => show 0 + 1 * (y 0).val = (y 0).val; omega
  | 1 => show 0 + 1 * (y 1).val = (y 1).val; omega

/-- What the body stores: both layers of the blocks it loads. -/
theorem stored (x : Vec F S2048x128 .f32) (w1 : Vec F S1x64x256 .bf16) (b1 : Vec F S1x1x256 .f32) (w2 : Vec F S1x256x64 .bf16) (b2 : Vec F S1x1x64 .f32) :
    View.canon [(⟨rOut, k0_pay1 (View.ld x rIn) (View.ld w1 rW1) (View.ld b1 rB1) (View.ld w2 rW2) (View.ld b2 rB2)⟩ : View.Piece (Elt F) S2048x128 .f32)]
      = k0_pay1 (front x) w1 b1 w2 b2 := by
  rw [View.canon_cons_unit_zero zero2, View.ld_unit_zero zero3, View.ld_unit_zero zero3, View.ld_unit_zero zero3, View.ld_unit_zero zero3, ld_in]

/-- Tile `t`'s rows through expert `e`. -/
def tile (xs : Vec F S81920x128 .f32) (w1 : Vec F S8x64x256 .bf16) (b1 : Vec F S8x1x256 .f32) (w2 : Vec F S8x256x64 .bf16) (b2 : Vec F S8x1x64 .f32)
    (t : Fin 40) (e : Fin 8) : Vec F S2048x128 .f32 :=
  k0_pay1 (front fun y => xs (at2 (⟨t.val * 2048 + (y 0).val, by have : (y 0).val < 2048 := (y 0).isLt; omega⟩ : Fin 81920) (y 1)))
    (fun y => w1 (at3 e (y 1) (y 2))) (fun y => b1 (at3 e (y 1) (y 2))) (fun y => w2 (at3 e (y 1) (y 2))) (fun y => b2 (at3 e (y 1) (y 2)))

/-- All the tiles: row `i 0` is in tile `i 0 / 2048`, and goes through the expert the table names for it. -/
def rows (xs : Vec F S81920x128 .f32) (w1 : Vec F S8x64x256 .bf16) (b1 : Vec F S8x1x256 .f32) (w2 : Vec F S8x256x64 .bf16) (b2 : Vec F S8x1x64 .f32)
    (e : S40.Idx → BitVec 32) (h : Named e) : Vec F S81920x128 .f32 := fun i =>
  tile xs w1 b1 w2 b2 ⟨(i 0).val / 2048, by have : (i 0).val < 81920 := (i 0).isLt; omega⟩
    (expert e h ⟨(i 0).val / 2048, by have : (i 0).val < 81920 := (i 0).isLt; omega⟩)
    (at2 (⟨(i 0).val % 2048, Nat.mod_lt _ (by decide)⟩ : Fin 2048) (i 1))

/-- A row of `rows`, from its tile and its place in it. -/
theorem rows_at (xs : Vec F S81920x128 .f32) (w1 : Vec F S8x64x256 .bf16) (b1 : Vec F S8x1x256 .f32) (w2 : Vec F S8x256x64 .bf16) (b2 : Vec F S8x1x64 .f32)
    (e : S40.Idx → BitVec 32) (h : Named e) (t : Fin 40) (y : S2048x128.Idx) (i : S81920x128.Idx)
    (h0 : (i 0).val = t.val * 2048 + (y 0).val) (h1 : (i 1).val = (y 1).val) :
    rows xs w1 b1 w2 b2 e h i = tile xs w1 b1 w2 b2 t (expert e h t) y := by
  have hy : (y 0).val < 2048 := (y 0).isLt
  have hi : (i 0).val < 81920 := (i 0).isLt
  have ht : t = ⟨(i 0).val / 2048, by omega⟩ := Fin.ext (by show t.val = (i 0).val / 2048; omega)
  have hy' : y = at2 (⟨(i 0).val % 2048, Nat.mod_lt _ (by decide)⟩ : Fin 2048) (i 1) := funext fun b => match b with
    | 0 => Fin.ext (by show (y 0).val = (i 0).val % 2048; omega)
    | 1 => Fin.ext h1.symm
  have key : ∀ (t t' : Fin 40) (y y' : S2048x128.Idx), t = t' → y = y' →
      tile xs w1 b1 w2 b2 t' (expert e h t') y' = tile xs w1 b1 w2 b2 t (expert e h t) y := by
    rintro _ _ _ _ rfl rfl; rfl
  exact key t _ y _ ht hy'

/-! ## The body -/

set_option maxHeartbeats 1000000 in
/-- One run of the body: it reads its five blocks (never the table) and leaves both layers of them in its output's buffer. -/
theorem body_run (c : Dev nD) (i : grid0.Coords) (a1 : Memref sig .tc .smem S40 .i32) (h1 : a1.IsWhole)
    (a2 : Memref sig .tc .vmem S2048x128 .f32) (h2 : a2.IsWhole) (a3 : Memref sig .tc .vmem S1x64x256 .bf16) (h3 : a3.IsWhole)
    (a4 : Memref sig .tc .vmem S1x1x256 .f32) (h4 : a4.IsWhole) (a5 : Memref sig .tc .vmem S1x256x64 .bf16) (h5 : a5.IsWhole)
    (a6 : Memref sig .tc .vmem S1x1x64 .f32) (h6 : a6.IsWhole) (a7 : Memref sig .tc .vmem S2048x128 .f32) (h7 : a7.IsWhole)
    (x : Vec F S2048x128 .f32) (w1 : Vec F S1x64x256 .bf16) (b1 : Vec F S1x1x256 .f32) (w2 : Vec F S1x256x64 .bf16) (b2 : Vec F S1x1x64 .f32)
    (Q : PUnit → sProp 𝕄) :
    iprop(owns (c : Thread nD τ) a2 fullShare x ∗ owns (c : Thread nD τ) a3 fullShare w1 ∗ owns (c : Thread nD τ) a4 fullShare b1
      ∗ owns (c : Thread nD τ) a5 fullShare w2 ∗ owns (c : Thread nD τ) a6 fullShare b2
      ∗ (∃ d, owns (c : Thread nD τ) a7 fullShare d)
      ∗ ((owns (c : Thread nD τ) a2 fullShare x ∗ owns (c : Thread nD τ) a3 fullShare w1 ∗ owns (c : Thread nD τ) a4 fullShare b1
          ∗ owns (c : Thread nD τ) a5 fullShare w2 ∗ owns (c : Thread nD τ) a6 fullShare b2
          ∗ owns (c : Thread nD τ) a7 fullShare (k0_pay1 (front x) w1 b1 w2 b2)) -∗ Q ⟨⟩))
    ⊢ wp frame (wpE (defs₀ (F := F)) 𝒱₀ (c : Thread nD τ) none) Set.univ
        (cc0__ffn_body i a1 h1 a2 h2 a3 h3 a4 h4 a5 h5 a6 h6 a7 h7) Q := by
  rw [← stored]
  simp only [cc0__ffn_body_eq_skeleton]
  unfold cc0__ffn_body_skel owns
  iintro ⟨⟨%f2, %e2, H2⟩, ⟨%f3, %e3, H3⟩, ⟨%f4, %e4, H4⟩, ⟨%f5, %e5, H5⟩, ⟨%f6, %e6, H6⟩, ⟨%d, %f7, -, H7⟩, Hk⟩
  subst e2 e3 e4 e5 e6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => View.cover_of_tiled [⟨rOut, _⟩] S2048x128.size (by rfl) y

/-! ## The proof data -/

variable (a : (p : Fin 2) → (pcfgs (F := F) p).Adm) (W : (c : Dev nD) → (b : Ref sig .tc) → Buf (Elt F) ((c : Thread nD τ).loc b))

/-- The pipeline at the table's contents. -/
abbrev cf : Pipeline.Cfg sig Λ₀ := cfg0 (F := F) (a 0)

/-- Window `w`'s block at point `t`, read off its array as the region finds it. -/
def blk (c : Dev nD) (w : Fin (cf a).W) (t : Fin (cf a).N) : (((cf a).win w).xblock ((cf a).grid.coords t)).Idx → Elt F ((cf a).win w).elt :=
  (((cf a).win w).blk t).view.read (Elt F) (W c (Pipeline.arrRef spec0 w))

/-- The region's data: inputs stay in place, the output's buffer holds both layers of the point's blocks. -/
def dat (c : Dev nD) : Dat τ (Elt F) (HIx 1) ℕ UU ℕ (cf a) c where
  A w := W c (Pipeline.arrRef spec0 w)
  after w t := match w with
    | ⟨0, _⟩ => blk a W c 0 t
    | ⟨1, _⟩ => blk a W c 1 t
    | ⟨2, _⟩ => blk a W c 2 t
    | ⟨3, _⟩ => blk a W c 3 t
    | ⟨4, _⟩ => blk a W c 4 t
    | ⟨5, _⟩ => k0_pay1 (front (blk a W c 0 t)) (blk a W c 1 t) (blk a W c 2 t) (blk a W c 3 t) (blk a W c 4 t)
  Φ _ := kept a 0 c
  q _ := fullShare
  owed _ := (K (F := F)).Otc c 0
  recorded _ := early (F := F) c 0

/-- The arrays hold what the region finds in them. -/
theorem dat_A (c : Dev nD) (w : Fin (cf a).W) : (dat a W c).A w = W c (Pipeline.arrRef spec0 w) := by dsimp only [dat]

/-- Window 0 ends a point as it was: an input. -/
theorem after_0 (c : Dev nD) (t : Fin (cf a).N) : (dat a W c).after 0 t = blk a W c 0 t := rfl
/-- Window 1 ends a point as it was: an input. -/
theorem after_1 (c : Dev nD) (t : Fin (cf a).N) : (dat a W c).after 1 t = blk a W c 1 t := rfl
/-- Window 2 ends a point as it was: an input. -/
theorem after_2 (c : Dev nD) (t : Fin (cf a).N) : (dat a W c).after 2 t = blk a W c 2 t := rfl
/-- Window 3 ends a point as it was: an input. -/
theorem after_3 (c : Dev nD) (t : Fin (cf a).N) : (dat a W c).after 3 t = blk a W c 3 t := rfl
/-- Window 4 ends a point as it was: an input. -/
theorem after_4 (c : Dev nD) (t : Fin (cf a).N) : (dat a W c).after 4 t = blk a W c 4 t := rfl
/-- The output ends a point holding the body's block. -/
theorem after_5 (c : Dev nD) (t : Fin (cf a).N) : (dat a W c).after 5 t
    = k0_pay1 (front (blk a W c 0 t)) (blk a W c 1 t) (blk a W c 2 t) (blk a W c 3 t) (blk a W c 4 t) := rfl

/-- An input's buffer holds its block at every point, also at a point where the same expert follows itself and nothing is fetched. -/
theorem before_in (c : Dev nD) (w : Fin (cf a).W) (hw : ((cf a).win w).isOut = false) (hlive : ∀ i, (cf a).idle w i = false)
    (hclip : ∀ t t' : Fin (cf a).N, ((cf a).win w).index t = ((cf a).win w).index t' →
      ((cf a).win w).clip ((cf a).grid.coords t) = ((cf a).win w).clip ((cf a).grid.coords t'))
    (hafter : ∀ t, ((cf a).win w).cut ((cf a).grid.coords t) ((dat a W c).after w t) = blk a W c w t) (t : Fin (cf a).N) (d) :
    (dat a W c).before w t d = ((cf a).win w).fill ((cf a).grid.coords t) d (blk a W c w t) :=
  ((dat a W c).before_in_eq_fetched w hw hlive hclip (fun t => by rw [hafter]; unfold Dat.blockOf blk; rw [dat_A]) t d).trans
    (by unfold Dat.fetched Dat.blockOf blk; rw [dat_A])
/-- `before_in`, of window 0. -/
theorem before_0 (c : Dev nD) (t : Fin (cf a).N) (d) : (dat a W c).before 0 t d = blk a W c 0 t :=
  before_in a W c 0 rfl (fun _ => rfl) (fun _ _ _ => rfl) (after_0 a W c) t d
/-- `before_in`, of window 1. -/
theorem before_1 (c : Dev nD) (t : Fin (cf a).N) (d) : (dat a W c).before 1 t d = blk a W c 1 t :=
  before_in a W c 1 rfl (fun _ => rfl) (fun _ _ _ => rfl) (after_1 a W c) t d
/-- `before_in`, of window 2. -/
theorem before_2 (c : Dev nD) (t : Fin (cf a).N) (d) : (dat a W c).before 2 t d = blk a W c 2 t :=
  before_in a W c 2 rfl (fun _ => rfl) (fun _ _ _ => rfl) (after_2 a W c) t d
/-- `before_in`, of window 3. -/
theorem before_3 (c : Dev nD) (t : Fin (cf a).N) (d) : (dat a W c).before 3 t d = blk a W c 3 t :=
  before_in a W c 3 rfl (fun _ => rfl) (fun _ _ _ => rfl) (after_3 a W c) t d
/-- `before_in`, of window 4. -/
theorem before_4 (c : Dev nD) (t : Fin (cf a).N) (d) : (dat a W c).before 4 t d = blk a W c 4 t :=
  before_in a W c 4 rfl (fun _ => rfl) (fun _ _ _ => rfl) (after_4 a W c) t d

/-! ## The body obligation -/

/-- The current buffer of window `w` at point `t`. -/
abbrev buf (w : Fin (cf a).W) (t : Fin (cf a).N) := ((cf a).win w).stage ((cf a).slots t w)

/-- The body as the region calls it at point `t`. -/
abbrev bodyAt (t : Fin (cf a).N) : Prog (TpuEff nD τ sig (Elt F) Λ₀ .tc) PUnit :=
  cc0__ffn_body (grid0.coords t) (Memref.whole main_arg2) (Memref.isWhole_whole _) (spec0_0.stage ((cf a).slots t 0)) (hstage0_0 (((cf a).slots t 0).cast nbuf0_0)) (spec0_1.stage ((cf a).slots t 1)) (hstage0_1 (((cf a).slots t 1).cast nbuf0_1)) (spec0_2.stage ((cf a).slots t 2)) (hstage0_2 (((cf a).slots t 2).cast nbuf0_2)) (spec0_3.stage ((cf a).slots t 3)) (hstage0_3 (((cf a).slots t 3).cast nbuf0_3)) (spec0_4.stage ((cf a).slots t 4)) (hstage0_4 (((cf a).slots t 4).cast nbuf0_4)) (spec0_5.stage ((cf a).slots t 5)) (hstage0_5 (((cf a).slots t 5).cast nbuf0_5))

/-- The body the region calls at a point. -/
theorem row (t : Fin (cf a).N) : defs₀ (F := F) .tc (cf a).body ((cf a).bodyArgs t ((cf a).slots t)) = bodyAt a t := rfl

/-- What the body starts a point with, window by window. -/
def start (c : Dev nD) (t : Fin (cf a).N) : sProp 𝕄 :=
  iprop((dat a W c).Φ t.castSucc ∗ (dat a W c).owesAt none t.castSucc
    ∗ (∃ d, owns (c : Thread nD τ) (buf a 0 t) fullShare ((dat a W c).before 0 t d))
    ∗ (∃ d, owns (c : Thread nD τ) (buf a 1 t) fullShare ((dat a W c).before 1 t d))
    ∗ (∃ d, owns (c : Thread nD τ) (buf a 2 t) fullShare ((dat a W c).before 2 t d))
    ∗ (∃ d, owns (c : Thread nD τ) (buf a 3 t) fullShare ((dat a W c).before 3 t d))
    ∗ (∃ d, owns (c : Thread nD τ) (buf a 4 t) fullShare ((dat a W c).before 4 t d))
    ∗ (∃ d, owns (c : Thread nD τ) (buf a 5 t) fullShare ((dat a W c).before 5 t d)))

/-- What it ends the point with. -/
def finish (c : Dev nD) (t : Fin (cf a).N) : sProp 𝕄 :=
  iprop((dat a W c).Φ t.succ ∗ (dat a W c).owesAt none t.succ
    ∗ owns (c : Thread nD τ) (buf a 0 t) fullShare ((dat a W c).after 0 t)
    ∗ owns (c : Thread nD τ) (buf a 1 t) fullShare ((dat a W c).after 1 t)
    ∗ owns (c : Thread nD τ) (buf a 2 t) fullShare ((dat a W c).after 2 t)
    ∗ owns (c : Thread nD τ) (buf a 3 t) fullShare ((dat a W c).after 3 t)
    ∗ owns (c : Thread nD τ) (buf a 4 t) fullShare ((dat a W c).after 4 t)
    ∗ owns (c : Thread nD τ) (buf a 5 t) fullShare ((dat a W c).after 5 t))

/-- The body at a point: its buffers hold the point's blocks, so `body_run` says what it leaves. -/
theorem point (c : Dev nD) (t : Fin (cf a).N) :
    start a W c t ⊢ wp frame (wpE (defs₀ (F := F)) 𝒱₀ (c : Thread nD τ) none) Set.univ (bodyAt a t) (fun _ => finish a W c t) := by
  unfold start finish bodyAt
  simp only [before_0, before_1, before_2, before_3, before_4]
  rw [show (dat a W c).Φ t.succ = (dat a W c).Φ t.castSucc from rfl,
    show (dat a W c).owesAt none t.succ = (dat a W c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c (grid0.coords t) (Memref.whole main_arg2) (Memref.isWhole_whole _) _ _ _ _ _ _ _ _ _ _ _ _
    (blk a W c 0 t) (blk a W c 1 t) (blk a W c 2 t) (blk a W c 3 t) (blk a W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the experts' pipeline. -/
theorem obligation (c : Dev nD) : BodyObligation (dat a W c) (defs₀ (F := F)) 𝒱₀ none Set.univ := fun t => by
  rw [bigSep_W0, bigSep_W0, row]
  exact triple_restated (point a W c t) rfl .rfl fun _ => .rfl

/-! ## The array it leaves -/

/-- Every point writes its block back: the next point's is another. -/
theorem flushes (t : Fin (cf a).N) : ((cf a).win 5).flush t = true :=
  (Pipeline.Window.flushOf_reads cc0_transform_5 reads0_5 hreads0_5 0 (by decide) (by decide)
    (Pipeline.Window.sep_of_coord cc0_transform_5 0 0 (fun _ => rfl) (by decide)) (P := 1) (m := 0) (by decide) rfl t).mpr (Nat.mod_one _)

/-- Point `t` is at coordinate `t`, -/
theorem coord (t : Fin grid0.N) : (grid0.coords t 0).val = t.val := by
  revert t; exact (by decide +kernel : ∀ t : Fin grid0.N, (grid0.coords t 0).val = t.val)

/-- and works on the block of rows `t`. -/
theorem index_row (t : Fin grid0.N) : cc0_transform_5 (grid0.coords t) 0 = t.val := by
  revert t; exact (by decide +kernel : ∀ t : Fin grid0.N, cc0_transform_5 (grid0.coords t) 0 = t.val)

/-- The final array is `rows` of the five arrays as the region finds them, and of the table. -/
theorem final (c : Dev nD) (e : S40.Idx → BitVec 32) (ha : (a 0).1 0 = e) (h : Named e) :
    (dat a W c).arrAt 5 (cf a).N = rows (W c main_arg1) (W c main_v0) (W c main_v1) (W c main_v2) (W c main_v3) e h := by
  subst ha
  refine (dat a W c).arrAt_eq_of_cover 5 (rows (W c main_arg1) (W c main_v0) (W c main_v1) (W c main_v2) (W c main_v3) ((a 0).1 0) h)
    (fun t _ => ?_) fun (i : S81920x128.Idx) => ?_
  · show ((cf a).win 5).cut (grid0.coords t) ((dat a W c).after 5 t) = _
    rw [after_5]
    have htN : t.val < 40 := lt_of_lt_of_eq t.isLt (show (cf a).N = 40 from N_0)
    have hx : (fun y : S2048x128.Idx => W c main_arg1 (at2 (n := 81920) (⟨t.val * 2048 + (y 0).val, by have : (y 0).val < 2048 := (y 0).isLt; omega⟩) (y 1)))
        = blk a W c 0 t := funext fun (y : S2048x128.Idx) => congrArg (W c main_arg1) (funext fun (b : Fin 2) => match b with
          | 0 => Fin.ext ((congrArg (fun n => n * 2048 + (y 0).val) (index_row t).symm).trans ((((cf a).win 0).rect_emb_val t y (0 : Fin 2)).symm))
          | 1 => Fin.ext (((cf a).win 0).rect_emb_val_of_index_zero t (1 : Fin 2) rfl y).symm)
    have hword : cc0_transform_1 k0_off1_inb numel1_S1 (a 0).1 (grid0.coords t) 0 = (expert ((a 0).1 0) h ⟨t.val, htN⟩).val :=
      (word (a 0).1 (grid0.coords t)).trans (congrArg (fun n => ((a 0).1 0 (at1 (n := 40) n)).toNat) (Fin.ext (coord t)))
    have h1 : (fun y : S1x64x256.Idx => W c main_v0 (at3 (expert ((a 0).1 0) h ⟨t.val, htN⟩) (y 1) (y 2))) = blk a W c 1 t :=
      funext fun (y : S1x64x256.Idx) => congrArg (W c main_v0) (funext fun (b : Fin 3) => match b with
        | 0 => Fin.ext (by
            refine Eq.trans ?_ (((cf a).win 1).rect_emb_val t y (0 : Fin 3)).symm
            have h0 : (y 0).val = 0 := Nat.lt_one_iff.mp (y 0).isLt
            show _ = cc0_transform_1 k0_off1_inb numel1_S1 (a 0).1 (grid0.coords t) 0 * 1 + (y 0).val
            rw [hword, h0]; exact (Nat.mul_one _).symm)
        | 1 => Fin.ext (((cf a).win 1).rect_emb_val_of_index_zero t (1 : Fin 3) rfl y).symm
        | 2 => Fin.ext (((cf a).win 1).rect_emb_val_of_index_zero t (2 : Fin 3) rfl y).symm)
    have h2 : (fun y : S1x1x256.Idx => W c main_v1 (at3 (expert ((a 0).1 0) h ⟨t.val, htN⟩) (y 1) (y 2))) = blk a W c 2 t :=
      funext fun (y : S1x1x256.Idx) => congrArg (W c main_v1) (funext fun (b : Fin 3) => match b with
        | 0 => Fin.ext (by
            refine Eq.trans ?_ (((cf a).win 2).rect_emb_val t y (0 : Fin 3)).symm
            have h0 : (y 0).val = 0 := Nat.lt_one_iff.mp (y 0).isLt
            show _ = cc0_transform_1 k0_off1_inb numel1_S1 (a 0).1 (grid0.coords t) 0 * 1 + (y 0).val
            rw [hword, h0]; exact (Nat.mul_one _).symm)
        | 1 => Fin.ext (((cf a).win 2).rect_emb_val_of_index_zero t (1 : Fin 3) rfl y).symm
        | 2 => Fin.ext (((cf a).win 2).rect_emb_val_of_index_zero t (2 : Fin 3) rfl y).symm)
    have h3 : (fun y : S1x256x64.Idx => W c main_v2 (at3 (expert ((a 0).1 0) h ⟨t.val, htN⟩) (y 1) (y 2))) = blk a W c 3 t :=
      funext fun (y : S1x256x64.Idx) => congrArg (W c main_v2) (funext fun (b : Fin 3) => match b with
        | 0 => Fin.ext (by
            refine Eq.trans ?_ (((cf a).win 3).rect_emb_val t y (0 : Fin 3)).symm
            have h0 : (y 0).val = 0 := Nat.lt_one_iff.mp (y 0).isLt
            show _ = cc0_transform_1 k0_off1_inb numel1_S1 (a 0).1 (grid0.coords t) 0 * 1 + (y 0).val
            rw [hword, h0]; exact (Nat.mul_one _).symm)
        | 1 => Fin.ext (((cf a).win 3).rect_emb_val_of_index_zero t (1 : Fin 3) rfl y).symm
        | 2 => Fin.ext (((cf a).win 3).rect_emb_val_of_index_zero t (2 : Fin 3) rfl y).symm)
    have h4 : (fun y : S1x1x64.Idx => W c main_v3 (at3 (expert ((a 0).1 0) h ⟨t.val, htN⟩) (y 1) (y 2))) = blk a W c 4 t :=
      funext fun (y : S1x1x64.Idx) => congrArg (W c main_v3) (funext fun (b : Fin 3) => match b with
        | 0 => Fin.ext (by
            refine Eq.trans ?_ (((cf a).win 4).rect_emb_val t y (0 : Fin 3)).symm
            have h0 : (y 0).val = 0 := Nat.lt_one_iff.mp (y 0).isLt
            show _ = cc0_transform_1 k0_off1_inb numel1_S1 (a 0).1 (grid0.coords t) 0 * 1 + (y 0).val
            rw [hword, h0]; exact (Nat.mul_one _).symm)
        | 1 => Fin.ext (((cf a).win 4).rect_emb_val_of_index_zero t (1 : Fin 3) rfl y).symm
        | 2 => Fin.ext (((cf a).win 4).rect_emb_val_of_index_zero t (2 : Fin 3) rfl y).symm)
    have htile : k0_pay1 (front (blk a W c 0 t)) (blk a W c 1 t) (blk a W c 2 t) (blk a W c 3 t) (blk a W c 4 t)
        = tile (W c main_arg1) (W c main_v0) (W c main_v1) (W c main_v2) (W c main_v3) ⟨t.val, htN⟩ (expert ((a 0).1 0) h ⟨t.val, htN⟩) := by
      unfold tile
      rw [← hx, ← h1, ← h2, ← h3, ← h4]
    rw [htile]
    refine funext fun (y : S2048x128.Idx) => ?_
    have hy : (y 0).val < 2048 := (y 0).isLt
    have hr : ((((cf a).win 5).rect t).emb y (0 : Fin 2) : Nat) = t.val * 2048 + (y 0).val := by
      refine (((cf a).win 5).rect_emb_val t y (0 : Fin 2)).trans ?_
      exact congrArg (fun n => n * 2048 + (y 0).val) (index_row t)
    have hc : ((((cf a).win 5).rect t).emb y (1 : Fin 2) : Nat) = (y 1).val := ((cf a).win 5).rect_emb_val_of_index_zero t (1 : Fin 2) rfl y
    exact (rows_at _ _ _ _ _ _ h ⟨t.val, htN⟩ y ((((cf a).win 5).rect t).emb y) hr hc).symm
  · have hi : (i 0).val < 81920 := (i 0).isLt
    let t : Fin (cf a).N := ⟨(i 0).val / 2048, by show _ < grid0.N; rw [N_0]; omega⟩
    refine ⟨t, flushes a t, Finset.mem_map.mpr ⟨(at2 (n := 2048) (k := 128) ⟨(i 0).val % 2048, Nat.mod_lt _ (by decide)⟩ (i 1)), Finset.mem_univ _, funext fun (b : Fin 2) => Fin.ext ?_⟩⟩
    match b with
    | 0 =>
      refine (((cf a).win 5).rect_emb_val t _ (0 : Fin 2)).trans ?_
      refine (congrArg (fun n => n * 2048 + (i 0).val % 2048) (index_row t)).trans ?_
      show (i 0).val / 2048 * 2048 + (i 0).val % 2048 = (i 0).val
      omega
    | 1 => exact ((cf a).win 5).rect_emb_val_of_index_zero t (1 : Fin 2) rfl _

end Cert.Proof.Ffn

end
-- ==== Proof.Combine.lean ====
/-
  The combining kernel: token by token, the state plus the two gathered rows weighted by their gates. One point of
  the grid does 2048 tokens; the sixteen points together do the whole array.
-/
module

public import proofs.«01_k».proof.Proof.Region
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof.Combine

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Gather (K D 𝒱₀ 𝒱 UU EH EP at2)
open Cert.Proof.Region (early kept)

variable {F : FTy → Type} [FloatOps F]

local notation "𝕄" => MT nD τ sig (HIx 1) (Elt F) ℕ UU ℕ

/-! ## The value -/

/-- The state of token `y 0` plus its two rows weighted by its two gates, at feature `y 1`. -/
def mix {n : ℕ} (x : Vec F ⟨2, ![n, 64]⟩ .f32) (y1 y2 : Vec F ⟨2, ![n, 128]⟩ .f32) (g1 g2 : Vec F ⟨2, ![n, 1]⟩ .f32) :
    Vec F ⟨2, ![n, 64]⟩ .f32 := fun y =>
  FloatOps.addf (FloatOps.addf (x y) (FloatOps.mulf (g1 (at2 (y 0) (0 : Fin 1))) (y1 (at2 (y 0) (Fin.castLE (m := 128) (n := 64) (by decide) (y 1))))))
    (FloatOps.mulf (g2 (at2 (y 0) (0 : Fin 1))) (y2 (at2 (y 0) (Fin.castLE (m := 128) (n := 64) (by decide) (y 1)))))

/-- A whole block of the states or of the result, as a rectangle. -/
abbrev rRow : Rect S2048x64 := Rect.unit (s := S2048x64) ![0, 0] S2048x64.size inb_S2048x64_S2048x64_0_0
/-- A whole block of gates, as a rectangle. -/
abbrev rGate : Rect S2048x1 := Rect.unit (s := S2048x1) ![0, 0] S2048x1.size inb_S2048x1_S2048x1_0_0
/-- The first 64 columns of a block of gathered rows, as a rectangle. -/
abbrev rHalf : Rect S2048x128 := Rect.unit (s := S2048x128) ![0, 0] S2048x64.size inb_S2048x128_S2048x64_0_0

/-- The origin of a block, with two axes. -/
theorem zero2 : (![0, 0] : Fin 2 → Nat) = fun _ => 0 := funext fun a => match a with | 0 => rfl | 1 => rfl

/-- A gate column spread over the features reads the token's gate. -/
theorem spread (g : Vec F S2048x1 .f32) (y : S2048x64.Idx) :
    broadcastTo S2048x64 g broadcasts_S2048x1_S2048x64 y = g (at2 (y 0) (0 : Fin 1)) :=
  broadcastTo_apply _ _ y (at2 (y 0) (0 : Fin 1) : S2048x1.Idx) fun a => match a with
    | 0 => rfl
    | 1 => rfl

/-- Casting a block to its own shape changes nothing. -/
theorem same (v : Vec F S2048x64 .f32) : shapeCast S2048x64 v shapeCasts_S2048x64_S2048x64 = v := shapeCast_self v _

/-- The left half of a gathered row, feature by feature. -/
theorem half (x : Vec F S2048x128 .f32) (y : S2048x64.Idx) :
    View.ld x rHalf y = x (at2 (y 0) (Fin.castLE (m := 128) (n := 64) (by decide) (y 1))) := by
  refine congrArg x (funext fun a => Fin.ext ?_)
  match a with
  | 0 => show 0 + 1 * (y 0).val = (y 0).val; omega
  | 1 => show 0 + 1 * (y 1).val = (y 1).val; omega

/-- What the body stores is `mix` of the blocks it loads. -/
theorem stored (x : Vec F S2048x64 .f32) (y1 y2 : Vec F S2048x128 .f32) (g1 g2 : Vec F S2048x1 .f32) :
    View.canon [(⟨rRow, k2_pay1 (View.ld x rRow) (View.ld g1 rGate) (View.ld y1 rHalf) (View.ld g2 rGate) (View.ld y2 rHalf)⟩ : View.Piece (Elt F) S2048x64 .f32)]
      = mix (n := 2048) x y1 y2 g1 g2 := by
  rw [View.canon_cons_unit_zero zero2, View.ld_unit_zero zero2, View.ld_unit_zero zero2, View.ld_unit_zero zero2]
  funext y
  show FloatOps.addf (FloatOps.addf (x y) (FloatOps.mulf (broadcastTo S2048x64 g1 broadcasts_S2048x1_S2048x64 y)
        (shapeCast S2048x64 (View.ld y1 rHalf) shapeCasts_S2048x64_S2048x64 y)))
      (FloatOps.mulf (broadcastTo S2048x64 g2 broadcasts_S2048x1_S2048x64 y)
        (shapeCast S2048x64 (View.ld y2 rHalf) shapeCasts_S2048x64_S2048x64 y)) = _
  rw [same (View.ld y1 rHalf), same (View.ld y2 rHalf), spread, spread, half, half]
  rfl

/-! ## The body -/

set_option maxHeartbeats 1000000 in
/-- One run of the body: it reads its five blocks, and leaves `mix` of them in its output's buffer. -/
theorem body_run (c : Dev nD) (i : grid2.Coords)
    (a1 : Memref sig .tc .vmem S2048x64 .f32) (h1 : a1.IsWhole) (a2 : Memref sig .tc .vmem S2048x128 .f32) (h2 : a2.IsWhole)
    (a3 : Memref sig .tc .vmem S2048x128 .f32) (h3 : a3.IsWhole) (a4 : Memref sig .tc .vmem S2048x1 .f32) (h4 : a4.IsWhole)
    (a5 : Memref sig .tc .vmem S2048x1 .f32) (h5 : a5.IsWhole) (a6 : Memref sig .tc .vmem S2048x64 .f32) (h6 : a6.IsWhole)
    (x : Vec F S2048x64 .f32) (y1 y2 : Vec F S2048x128 .f32) (g1 g2 : Vec F S2048x1 .f32) (Q : PUnit → sProp 𝕄) :
    iprop(owns (c : Thread nD τ) a1 fullShare x ∗ owns (c : Thread nD τ) a2 fullShare y1 ∗ owns (c : Thread nD τ) a3 fullShare y2
      ∗ owns (c : Thread nD τ) a4 fullShare g1 ∗ owns (c : Thread nD τ) a5 fullShare g2
      ∗ (∃ d, owns (c : Thread nD τ) a6 fullShare d)
      ∗ ((owns (c : Thread nD τ) a1 fullShare x ∗ owns (c : Thread nD τ) a2 fullShare y1 ∗ owns (c : Thread nD τ) a3 fullShare y2
          ∗ owns (c : Thread nD τ) a4 fullShare g1 ∗ owns (c : Thread nD τ) a5 fullShare g2
          ∗ owns (c : Thread nD τ) a6 fullShare (mix (n := 2048) x y1 y2 g1 g2)) -∗ Q ⟨⟩))
    ⊢ wp frame (wpE (defs₀ (F := F)) 𝒱₀ (c : Thread nD τ) none) Set.univ
        (cc2__combine_body i a1 h1 a2 h2 a3 h3 a4 h4 a5 h5 a6 h6) Q := by
  rw [← stored]
  simp only [cc2__combine_body_eq_skeleton]
  unfold cc2__combine_body_skel owns
  iintro ⟨⟨%f1, %e1, H1⟩, ⟨%f2, %e2, H2⟩, ⟨%f3, %e3, H3⟩, ⟨%f4, %e4, H4⟩, ⟨%f5, %e5, H5⟩, ⟨%d, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled [⟨rRow, _⟩] S2048x64.size (by rfl) y

/-! ## The proof data -/

variable (a : (p : Fin 2) → (pcfgs (F := F) p).Adm) (W : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The region's data: inputs stay in place, the output's buffer holds `mix` of the point's blocks. -/
def dat (c : Dev nD) : Dat τ (Elt F) (HIx 1) ℕ UU ℕ cfg2 c where
  A w := W c (Pipeline.arrRef spec2 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => mix (n := 2048) (blk W c 0 t) (blk W c 1 t) (blk W c 2 t) (blk W c 3 t) (blk W c 4 t)
  Φ _ := kept a 1 c
  q _ := fullShare
  owed _ := (K (F := F)).Otc c 1
  recorded _ := early (F := F) c 1

/-- The arrays hold what the region finds in them. -/
theorem dat_A (c : Dev nD) (w : Fin cfg2.W) : (dat a W c).A w = W c (Pipeline.arrRef spec2 w) := by dsimp only [dat]

/-- Window 0 ends a point as it was: an input. -/
theorem after_0 (c : Dev nD) (t : Fin cfg2.N) : (dat a W c).after 0 t = blk W c 0 t := by dsimp only [dat]
/-- Window 1 ends a point as it was: an input. -/
theorem after_1 (c : Dev nD) (t : Fin cfg2.N) : (dat a W c).after 1 t = blk W c 1 t := by dsimp only [dat]
/-- Window 2 ends a point as it was: an input. -/
theorem after_2 (c : Dev nD) (t : Fin cfg2.N) : (dat a W c).after 2 t = blk W c 2 t := by dsimp only [dat]
/-- Window 3 ends a point as it was: an input. -/
theorem after_3 (c : Dev nD) (t : Fin cfg2.N) : (dat a W c).after 3 t = blk W c 3 t := by dsimp only [dat]
/-- Window 4 ends a point as it was: an input. -/
theorem after_4 (c : Dev nD) (t : Fin cfg2.N) : (dat a W c).after 4 t = blk W c 4 t := by dsimp only [dat]
/-- The output ends a point holding the body's block. -/
theorem after_5 (c : Dev nD) (t : Fin cfg2.N) : (dat a W c).after 5 t
    = mix (n := 2048) (blk W c 0 t) (blk W c 1 t) (blk W c 2 t) (blk W c 3 t) (blk W c 4 t) := by dsimp only [dat]

/-- An input's buffer holds its block at every point: the windows move block by block, all of them inputs' own. -/
theorem before_in (c : Dev nD) (w : Fin cfg2.W) (hw : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hafter : ∀ t, (cfg2.win w).cut (cfg2.grid.coords t) ((dat a W c).after w t) = blk W c w t) (t : Fin cfg2.N) (d) :
    (dat a W c).before w t d = (cfg2.win w).fill (cfg2.grid.coords t) d (blk W c w t) :=
  ((dat a W c).before_in_eq_fetched w hw hlive hclip (fun t => by rw [hafter]; unfold Dat.blockOf blk; rw [dat_A]) t d).trans
    (by unfold Dat.fetched Dat.blockOf blk; rw [dat_A])
/-- `before_in`, of window 0. -/
theorem before_0 (c : Dev nD) (t : Fin cfg2.N) (d) : (dat a W c).before 0 t d = blk W c 0 t :=
  before_in a W c 0 rfl (fun _ => rfl) (fun _ _ _ => rfl) (after_0 a W c) t d
/-- `before_in`, of window 1. -/
theorem before_1 (c : Dev nD) (t : Fin cfg2.N) (d) : (dat a W c).before 1 t d = blk W c 1 t :=
  before_in a W c 1 rfl (fun _ => rfl) (fun _ _ _ => rfl) (after_1 a W c) t d
/-- `before_in`, of window 2. -/
theorem before_2 (c : Dev nD) (t : Fin cfg2.N) (d) : (dat a W c).before 2 t d = blk W c 2 t :=
  before_in a W c 2 rfl (fun _ => rfl) (fun _ _ _ => rfl) (after_2 a W c) t d
/-- `before_in`, of window 3. -/
theorem before_3 (c : Dev nD) (t : Fin cfg2.N) (d) : (dat a W c).before 3 t d = blk W c 3 t :=
  before_in a W c 3 rfl (fun _ => rfl) (fun _ _ _ => rfl) (after_3 a W c) t d
/-- `before_in`, of window 4. -/
theorem before_4 (c : Dev nD) (t : Fin cfg2.N) (d) : (dat a W c).before 4 t d = blk W c 4 t :=
  before_in a W c 4 rfl (fun _ => rfl) (fun _ _ _ => rfl) (after_4 a W c) t d

/-! ## The body obligation -/

/-- What the body starts a point with, window by window. -/
def start (c : Dev nD) (t : Fin cfg2.N) : sProp 𝕄 :=
  iprop((dat a W c).Φ t.castSucc ∗ (dat a W c).owesAt none t.castSucc
    ∗ (∃ d, owns (c : Thread nD τ) (st2_0 t) fullShare ((dat a W c).before 0 t d))
    ∗ (∃ d, owns (c : Thread nD τ) (st2_1 t) fullShare ((dat a W c).before 1 t d))
    ∗ (∃ d, owns (c : Thread nD τ) (st2_2 t) fullShare ((dat a W c).before 2 t d))
    ∗ (∃ d, owns (c : Thread nD τ) (st2_3 t) fullShare ((dat a W c).before 3 t d))
    ∗ (∃ d, owns (c : Thread nD τ) (st2_4 t) fullShare ((dat a W c).before 4 t d))
    ∗ (∃ d, owns (c : Thread nD τ) (st2_5 t) fullShare ((dat a W c).before 5 t d)))

/-- What it ends the point with. -/
def finish (c : Dev nD) (t : Fin cfg2.N) : sProp 𝕄 :=
  iprop((dat a W c).Φ t.succ ∗ (dat a W c).owesAt none t.succ
    ∗ owns (c : Thread nD τ) (st2_0 t) fullShare ((dat a W c).after 0 t)
    ∗ owns (c : Thread nD τ) (st2_1 t) fullShare ((dat a W c).after 1 t)
    ∗ owns (c : Thread nD τ) (st2_2 t) fullShare ((dat a W c).after 2 t)
    ∗ owns (c : Thread nD τ) (st2_3 t) fullShare ((dat a W c).after 3 t)
    ∗ owns (c : Thread nD τ) (st2_4 t) fullShare ((dat a W c).after 4 t)
    ∗ owns (c : Thread nD τ) (st2_5 t) fullShare ((dat a W c).after 5 t))

/-- The body at a point: its buffers hold the point's blocks, so `body_run` says what it leaves. -/
theorem point (c : Dev nD) (t : Fin cfg2.N) :
    start a W c t ⊢ wp frame (wpE (defs₀ (F := F)) 𝒱₀ (c : Thread nD τ) none) Set.univ (bodyAt2 t) (fun _ => finish a W c t) := by
  unfold start finish bodyAt2
  simp only [before_0, before_1, before_2, before_3, before_4]
  rw [show (dat a W c).Φ t.succ = (dat a W c).Φ t.castSucc from rfl,
    show (dat a W c).owesAt none t.succ = (dat a W c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c (grid2.coords t) _ _ _ _ _ _ _ _ _ _ _ _ (blk W c 0 t) (blk W c 1 t) (blk W c 2 t) (blk W c 3 t) (blk W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body the region calls at a point. -/
theorem row (t : Fin cfg2.N) : defs₀ (F := F) .tc cfg2.body (cfg2.bodyArgs t (cfg2.slots t)) = bodyAt2 t := by
  rfl

/-- The body obligation of the combining kernel's pipeline. -/
theorem obligation (c : Dev nD) : BodyObligation (dat a W c) (defs₀ (F := F)) 𝒱₀ none Set.univ := fun t => by
  rw [bigSep_W2, bigSep_W2, row]
  exact triple_restated (point a W c t) rfl .rfl fun _ => .rfl

/-! ## The array it leaves -/

/-- Where the `mix` of two sets of arrays agrees: at places where each array read holds the same. -/
theorem mix_at {n k : ℕ} {x : Vec F ⟨2, ![n, 64]⟩ .f32} {y1 y2 : Vec F ⟨2, ![n, 128]⟩ .f32} {g1 g2 : Vec F ⟨2, ![n, 1]⟩ .f32}
    {x' : Vec F ⟨2, ![k, 64]⟩ .f32} {y1' y2' : Vec F ⟨2, ![k, 128]⟩ .f32} {g1' g2' : Vec F ⟨2, ![k, 1]⟩ .f32}
    (y : Shape.Idx ⟨2, ![n, 64]⟩) (z : Shape.Idx ⟨2, ![k, 64]⟩) (hf : y 1 = z 1) (h0 : x y = x' z)
    (h1 : ∀ f : Fin 128, y1 (at2 (y 0) f) = y1' (at2 (z 0) f)) (h2 : ∀ f : Fin 128, y2 (at2 (y 0) f) = y2' (at2 (z 0) f))
    (h3 : ∀ f : Fin 1, g1 (at2 (y 0) f) = g1' (at2 (z 0) f)) (h4 : ∀ f : Fin 1, g2 (at2 (y 0) f) = g2' (at2 (z 0) f)) :
    mix x y1 y2 g1 g2 y = mix x' y1' y2' g1' g2' z := by
  unfold mix
  rw [h0, h1, h2, h3, h4, hf]

/-- Point `t` works on the block of rows `t`. -/
theorem index_row (t : Fin cfg2.N) : win2_5.index t 0 = t.val := by
  revert t; exact (by decide +kernel : ∀ t : Fin grid2.N, win2_5.index t 0 = t.val)

/-- The final array is `mix` of the five arrays as the region finds them. -/
theorem final (c : Dev nD) :
    (dat a W c).arrAt 5 cfg2.N = mix (n := 32768) (W c main_arg0) (W c main_v5_0) (W c main_v5_1) (W c main_arg5) (W c main_arg6) := by
  refine (dat a W c).arrAt_eq_of_cover 5 (mix (n := 32768) (W c main_arg0) (W c main_v5_0) (W c main_v5_1) (W c main_arg5) (W c main_arg6))
    (fun t _ => ?_) fun i => ?_
  · show (cfg2.win 5).cut (grid2.coords t) ((dat a W c).after 5 t) = _
    rw [after_5]
    funext y
    show mix (n := 2048) (blk W c 0 t) (blk W c 1 t) (blk W c 2 t) (blk W c 3 t) (blk W c 4 t) y
      = mix (n := 32768) (W c main_arg0) (W c main_v5_0) (W c main_v5_1) (W c main_arg5) (W c main_arg6) ((win2_5.rect t).emb y)
    refine mix_at (n := 2048) (k := 32768) y ((win2_5.rect t).emb y) ?_ rfl (fun f => ?_) (fun f => ?_) (fun f => ?_) fun f => ?_
    · exact (Fin.ext (win2_5.rect_emb_val_of_index_zero t 1 rfl y)).symm
    · exact congrArg (W c main_v5_0) (funext fun b => match b with
        | 0 => Fin.ext ((win2_1.rect_emb_val t (at2 (n := 2048) (k := 128) (y 0) f) 0).trans (win2_5.rect_emb_val t y 0).symm)
        | 1 => Fin.ext (win2_1.rect_emb_val_of_index_zero t 1 rfl (at2 (n := 2048) (k := 128) (y 0) f)))
    · exact congrArg (W c main_v5_1) (funext fun b => match b with
        | 0 => Fin.ext ((win2_2.rect_emb_val t (at2 (n := 2048) (k := 128) (y 0) f) 0).trans (win2_5.rect_emb_val t y 0).symm)
        | 1 => Fin.ext (win2_2.rect_emb_val_of_index_zero t 1 rfl (at2 (n := 2048) (k := 128) (y 0) f)))
    · exact congrArg (W c main_arg5) (funext fun b => match b with
        | 0 => Fin.ext ((win2_3.rect_emb_val t (at2 (n := 2048) (k := 1) (y 0) f) 0).trans (win2_5.rect_emb_val t y 0).symm)
        | 1 => Fin.ext (win2_3.rect_emb_val_of_index_zero t 1 rfl (at2 (n := 2048) (k := 1) (y 0) f)))
    · exact congrArg (W c main_arg6) (funext fun b => match b with
        | 0 => Fin.ext ((win2_4.rect_emb_val t (at2 (n := 2048) (k := 1) (y 0) f) 0).trans (win2_5.rect_emb_val t y 0).symm)
        | 1 => Fin.ext (win2_4.rect_emb_val_of_index_zero t 1 rfl (at2 (n := 2048) (k := 1) (y 0) f)))
  · have hi : (i 0).val < 32768 := (i 0).isLt
    let t : Fin cfg2.N := ⟨(i 0).val / 2048, by show _ < grid2.N; rw [N_2]; omega⟩
    refine ⟨t, flush2_5 t, Finset.mem_map.mpr ⟨(at2 (n := 2048) (k := 64) ⟨(i 0).val % 2048, Nat.mod_lt _ (by decide)⟩ (i 1)), Finset.mem_univ _, funext fun b => Fin.ext ?_⟩⟩
    match b with
    | 0 =>
      refine (win2_5.rect_emb_val t _ 0).trans ?_
      rw [index_row t]
      show (i 0).val / 2048 * 2048 + (i 0).val % 2048 = (i 0).val
      omega
    | 1 => exact win2_5.rect_emb_val_of_index_zero t 1 rfl _

end Cert.Proof.Combine

end
-- ==== Proof.Launch.lean ====
/-
  The whole program: four host operations lay out the weights, the first kernel makes the rows, the SparseCore's
  gather fetches the rows the two lists name, and the last kernel combines them. Here the three calls are put in
  order, each from the contents the one before it leaves.
-/
module

public import proofs.«01_k».proof.Proof.Tasks
public import proofs.«01_k».proof.Proof.Ffn
public import proofs.«01_k».proof.Proof.Combine

@[expose] public section

set_option maxRecDepth 16384

noncomputable section

namespace Cert.Proof.Launch

open Cert.KernelIdeal Cert.KernelIdeal.Gen

open Idealize.ShloMosaic
open Idealize.ShloMosaic.TcCoe Idealize.ShloMosaic.Tactic
open Idealize.ShloMosaic.SparseCore.Cfg (HIx Pay callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Gather

variable {F : FTy → Type} [FloatOps F]

local notation "𝕄" => MT nD τ sig (HIx 1) (Elt F) ℕ UU ℕ

variable (m : (ℓ : Loc nD τ sig) → Buf (Elt F) ℓ) (ρ : Dev nD → PrngReg)

/-- What the proof asks of the memory at the start: every tile's word names an expert, every word of either list a row. -/
def Ok : Prop := (∀ d : Dev nD, Ffn.Named (m ((SparseCore.T d).loc main_arg2))) ∧ PreOK m

/-! ## The contents between the calls -/

/-- The host operations before the first call. -/
abbrev ops : List (HloOp τ sig (Elt F)) :=
  [ StableHlo.unary main_arg7 main_v0 ((truncf .bf16 · bitsLt_bf16_f32) : (⟨S8x64x256, .f32⟩ : BufTy).Contents (Elt F) → (⟨S8x64x256, .bf16⟩ : BufTy).Contents (Elt F)),
    StableHlo.reshape main_arg8 main_v1 (rfl : (.f32 : EltTy) = .f32) shapeCasts_S8x256_S8x1x256,
    StableHlo.unary main_arg9 main_v2 ((truncf .bf16 · bitsLt_bf16_f32) : (⟨S8x256x64, .f32⟩ : BufTy).Contents (Elt F) → (⟨S8x256x64, .bf16⟩ : BufTy).Contents (Elt F)),
    StableHlo.reshape main_arg10 main_v3 (rfl : (.f32 : EltTy) = .f32) shapeCasts_S8x64_S8x1x64 ]

/-- They name the TensorCore's buffers only. -/
theorem ops_bufs : (ops : List (HloOp τ sig (Elt F))).Forall fun op => op.bufs ⊆ StableHlo.tcRefs τ sig := by
  simp only [List.Forall]
  exact ⟨StableHlo.unary_bufs_sub .., StableHlo.reshape_bufs_sub .., StableHlo.unary_bufs_sub .., StableHlo.reshape_bufs_sub ..⟩

/-- They take no fresh buffer. -/
theorem ops_fresh : (ops : List (HloOp τ sig (Elt F))).Forall fun op => op.fresh = ∅ := by
  simp only [List.Forall]
  exact ⟨rfl, rfl, rfl, rfl⟩

/-- Contents of every TensorCore buffer of every device. -/
abbrev Contents : Type := (c : Dev nD) → (b : Ref sig .tc) → Buf (Elt F) ((c : Thread nD τ).loc b)

/-- Before the first kernel. -/
def W0 : Contents (F := F) := fun c b => StableHlo.after ops (fun b => m (c, b)) (Proc.devRef .tc b)

/-- A buffer the host operations do not write is as at the start. -/
theorem W0_of_ne (c : Dev nD) (b : Ref sig .tc) (h : b ≠ main_v0 ∧ b ≠ main_v1 ∧ b ≠ main_v2 ∧ b ≠ main_v3) :
    W0 m c b = m ((c : Thread nD τ).loc b) := by
  refine StableHlo.after_of_forall_not_mem (b := Proc.devRef .tc b) _ _ (List.forall_iff_forall_mem.mp ?_)
  simp only [ops, List.Forall, StableHlo.unary_writes, StableHlo.reshape_writes, Finset.mem_singleton]
  exact ⟨StableHlo.devRef_ne_of_ne h.1, StableHlo.devRef_ne_of_ne h.2.1, StableHlo.devRef_ne_of_ne h.2.2.1, StableHlo.devRef_ne_of_ne h.2.2.2⟩

variable {m} in
/-- The tables the kernels prefetch: the experts of the tiles for the first, none for the last. -/
def tables (h : Ok m) : (p : Fin 2) → (pcfgs (F := F) p).Adm := fun
  | ⟨0, _⟩ => ⟨fun k => W0 m 0 (pre0.ref k), Ffn.admits _ (by
      show Ffn.Named (W0 m 0 main_arg2)
      rw [W0_of_ne m 0 main_arg2 (by decide)]; exact h.1 0)⟩
  | ⟨1, _⟩ => cfg2.toPCfg_adm

variable {m} in
/-- The rows the first kernel makes. -/
def made (h : Ok m) (c : Dev nD) : Vec F S81920x128 .f32 :=
  Ffn.rows (W0 m c main_arg1) (W0 m c main_v0) (W0 m c main_v1) (W0 m c main_v2) (W0 m c main_v3) (m ((SparseCore.T c).loc main_arg2)) (h.1 c)

variable {m} in
/-- Before the gather. -/
def W1 (h : Ok m) : Contents (F := F) := fun c => Function.update (W0 m c) main_v4 (made h c)

variable {m} in
/-- The memory the gather's proof is about: the one at the start, with the rows made. -/
def mid (h : Ok m) : (ℓ : Loc nD τ sig) → Buf (Elt F) ℓ := Function.update m (yLoc 0) (made h 0)

variable {m}

/-- It has the rows made. -/
theorem mid_y (h : Ok m) (d : Dev nD) : mid h (yLoc d) = W1 h d main_v4 := by
  obtain rfl : d = 0 := Subsingleton.elim _ _
  unfold mid W1
  rw [Function.update_self, Function.update_self]

/-- Elsewhere it is the memory at the start. -/
theorem mid_of_ne (h : Ok m) (d : Dev nD) (b : Ref sig .tc) (hb : b ≠ main_v4) : mid h ((SparseCore.T d).loc b) = m ((SparseCore.T d).loc b) :=
  Function.update_of_ne (fun e => StableHlo.devRef_ne_of_ne hb (congrArg Prod.snd e)) _ _

/-- The first kernel writes its rows only. -/
theorem W1_of_ne (h : Ok m) (c : Dev nD) (b : Ref sig .tc) (hb : b ≠ main_v4) : W1 h c b = W0 m c b := Function.update_of_ne hb _ _

/-- The lists name rows of the table there too. -/
theorem mid_ok (h : Ok m) : PreOK (mid h) := fun d => by
  rw [show mid h (sLoc d) = m (sLoc d) from mid_of_ne h d main_arg3 (by decide), show mid h (tLoc d) = m (tLoc d) from mid_of_ne h d main_arg4 (by decide)]
  exact h.2 d

/-- Before the last kernel. -/
def W2 (h : Ok m) : Contents (F := F) := fun c =>
  Function.update (Function.update (W1 h c) main_v5_0 (oFin (mid_ok h) c)) main_v5_1 (pFin (mid_ok h) c)

/-- The gather writes its two results only. -/
theorem W2_of_ne (h : Ok m) (c : Dev nD) (b : Ref sig .tc) (hb : b ≠ main_v5_0 ∧ b ≠ main_v5_1) : W2 h c b = W1 h c b :=
  (Function.update_of_ne hb.2 _ _).trans (Function.update_of_ne hb.1 _ _)

/-- At the end. -/
def W3 (h : Ok m) : Contents (F := F) := fun c => Function.update (W2 h c) main_v6
  (Combine.mix (n := 32768) (W2 h c main_arg0) (W2 h c main_v5_0) (W2 h c main_v5_1) (W2 h c main_arg5) (W2 h c main_arg6))

/-- The last kernel writes the result only. -/
theorem W3_of_ne (h : Ok m) (c : Dev nD) (b : Ref sig .tc) (hb : b ≠ main_v6) : W3 h c b = W2 h c b := Function.update_of_ne hb _ _

/-! ## The two kernels' parts -/

/-- Both kernels' proof data. -/
def pdats (h : Ok m) : (p : Fin 2) → (c : Dev nD) → Dat τ (Elt F) (HIx 1) ℕ UU ℕ (Pipeline.pin (pcfgs (F := F)) (tables h) p) c := fun
  | ⟨0, _⟩ => Ffn.dat (tables h) (W0 m)
  | ⟨1, _⟩ => Combine.dat (tables h) (W2 h)

/-- The first kernel makes the rows and leaves all else. -/
def first (h : Ok m) := Region.seg (tables h) (pdats h) 0 (W0 m) (W1 h) 0 launch0 (fun _ _ => rfl) (fun _ _ => ite_self _) (fun _ _ => rfl) (fun _ _ => rfl)
  (fun c w => Ffn.dat_A (tables h) (W0 m) c w)
  (fun c => by obtain rfl : c = 0 := Subsingleton.elim _ _; rfl)
  (fun c => Ffn.obligation (tables h) (W0 m) c)
  (fun c w => by
    have hin : ∀ w : Fin 6, Pipeline.arrRef spec0 w ≠ main_v4 → (spec0 w).isOut = false →
        (Ffn.dat (tables h) (W0 m) c).arrAt w (Ffn.cf (tables h)).N = W1 h c (Pipeline.arrRef spec0 w) := fun w hw ho =>
      ((Ffn.dat (tables h) (W0 m) c).arrAt_in w ho _).trans ((Ffn.dat_A (tables h) (W0 m) c w).trans (W1_of_ne h c _ hw).symm)
    match w with
    | 0 => exact hin 0 (by decide) rfl
    | 1 => exact hin 1 (by decide) rfl
    | 2 => exact hin 2 (by decide) rfl
    | 3 => exact hin 3 (by decide) rfl
    | 4 => exact hin 4 (by decide) rfl
    | 5 =>
      refine (Ffn.final (tables h) (W0 m) c (m ((SparseCore.T c).loc main_arg2)) ?_ (h.1 c)).trans ?_
      · obtain rfl : c = 0 := Subsingleton.elim _ _
        exact W0_of_ne m 0 main_arg2 (by decide)
      · exact (Function.update_self (f := W0 m c) main_v4 (made h c)).symm)
  (fun c b hb => W1_of_ne h c b fun e => hb (e ▸ Finset.mem_image_of_mem _ (Finset.mem_univ (5 : Fin 6))))

/-- The last kernel combines the gathered rows and leaves all else. -/
def last (h : Ok m) := Region.seg (tables h) (pdats h) 1 (W2 h) (W3 h) 1 launch2 (fun _ _ => rfl) (fun _ _ => ite_self _) (fun _ _ => rfl) (fun _ _ => rfl)
  (fun c w => Combine.dat_A (tables h) (W2 h) c w)
  (fun c => funext fun k => k.elim0)
  (fun c => Combine.obligation (tables h) (W2 h) c)
  (fun c w => by
    have hin : ∀ w : Fin 6, Pipeline.arrRef spec2 w ≠ main_v6 → (spec2 w).isOut = false →
        (Combine.dat (tables h) (W2 h) c).arrAt w cfg2.N = W3 h c (Pipeline.arrRef spec2 w) := fun w hw ho =>
      ((Combine.dat (tables h) (W2 h) c).arrAt_in w ho _).trans ((Combine.dat_A (tables h) (W2 h) c w).trans (W3_of_ne h c _ hw).symm)
    match w with
    | 0 => exact hin 0 (by decide) rfl
    | 1 => exact hin 1 (by decide) rfl
    | 2 => exact hin 2 (by decide) rfl
    | 3 => exact hin 3 (by decide) rfl
    | 4 => exact hin 4 (by decide) rfl
    | 5 => exact (Combine.final (tables h) (W2 h) c).trans (Function.update_self (f := W2 h c) main_v6 _).symm)
  (fun c b hb => W3_of_ne h c b fun e => hb (e ▸ Finset.mem_image_of_mem _ (Finset.mem_univ (5 : Fin 6))))

/-- What the first kernel starts from. -/
theorem first_pre (h : Ok m) (d : Dev nD) : (first h).pre d = iprop(unscopedBufs d (W0 m d) ∗ (K (F := F)).tcSt EH d 0) := rfl
/-- What the first kernel ends with. -/
theorem first_post (h : Ok m) (d : Dev nD) : (first h).post d = iprop(unscopedBufs d (W1 h d) ∗ (K (F := F)).tcSt EH d 0) := rfl
/-- What the last kernel starts from. -/
theorem last_pre (h : Ok m) (d : Dev nD) : (last h).pre d = iprop(unscopedBufs d (W2 h d) ∗ (K (F := F)).tcSt EH d 1) := rfl
/-- What the last kernel ends with. -/
theorem last_post (h : Ok m) (d : Dev nD) : (last h).post d = iprop(unscopedBufs d (W3 h d) ∗ (K (F := F)).tcSt EH d 1) := rfl

/-! ## The gather's part -/

/-- The buffers the gather does not touch. -/
def others : Finset (Ref sig .tc) :=
  ((((Finset.univ.filter fun b : Ref sig .tc => ¬ b.isScoped).erase main_v4).erase main_arg3).erase main_arg4).erase main_v5_0 |>.erase main_v5_1

/-- The unscoped buffers are the gather's five and the others. -/
theorem apart (d : Dev nD) (W : (b : Ref sig .tc) → Buf (Elt F) ((d.tc : Thread nD τ).loc b)) :
    (unscopedBufs d W : sProp 𝕄) = iprop(((yLoc d ↦{fullShare} W main_v4) ∗ (sLoc d ↦{fullShare} W main_arg3) ∗ (tLoc d ↦{fullShare} W main_arg4)
      ∗ (oLoc d ↦{fullShare} W main_v5_0) ∗ (pLoc d ↦{fullShare} W main_v5_1))
        ∗ bigSep others fun b => (d.tc : Thread nD τ).loc b ↦{fullShare} W b) := by
  unfold unscopedBufs
  rw [show (Finset.univ.filter fun b : Ref sig .tc => ¬ b.isScoped)
      = insert main_v4 (insert main_arg3 (insert main_arg4 (insert main_v5_0 (insert main_v5_1 others)))) by decide,
    SparseCore.bigSep_insert' (by decide), SparseCore.bigSep_insert' (by decide), SparseCore.bigSep_insert' (by decide),
    SparseCore.bigSep_insert' (by decide), SparseCore.bigSep_insert' (by decide)]
  simp only [sep_assoc_eq]

/-- The others keep their contents across the gather. -/
theorem others_keep (h : Ok m) (d : Dev nD) :
    (bigSep others fun b => (d.tc : Thread nD τ).loc b ↦{fullShare} W1 h d b : sProp 𝕄)
      = bigSep others fun b => (d.tc : Thread nD τ).loc b ↦{fullShare} W2 h d b :=
  bigSep_congr fun b hb => by
    rw [W2_of_ne h d b ⟨fun e => absurd hb (e ▸ by decide), fun e => absurd hb (e ▸ by decide)⟩]

/-- What the cores are handed is what their tiles are handed. -/
theorem starts (h : PreOK m) (d : Dev nD) : (bigSep Finset.univ fun c : Fin ((K (F := F)).nCore 0) => (P m h).st 0 d c)
    = bigSep Finset.univ fun c : Fin 2 => bigSep Finset.univ fun i : Fin 16 => goT m d c i :=
  bigSep_cores (F := F) (fun c => bigSep Finset.univ fun i : Fin 16 => goT m d c i)
/-- What the cores bring back is what their tiles bring back. -/
theorem dones (h : PreOK m) (d : Dev nD) : (bigSep Finset.univ fun c : Fin ((K (F := F)).nCore 0) => (P m h).dn 0 d c)
    = bigSep Finset.univ fun c : Fin 2 => bigSep Finset.univ fun i : Fin 16 => tdT h d c i :=
  bigSep_cores (F := F) (fun c => bigSep Finset.univ fun i : Fin 16 => tdT h d c i)

/-- The buffers before the gather are what the tiles take, and the others. -/
theorem given (h : Ok m) (d : Dev nD) :
    (unscopedBufs d (W1 h d) : sProp 𝕄) = iprop((bigSep Finset.univ fun c : Fin ((K (F := F)).nCore 0) => (P (mid h) (mid_ok h)).st 0 d c)
      ∗ bigSep others fun b => (d.tc : Thread nD τ).loc b ↦{fullShare} W1 h d b) := by
  rw [apart, starts]
  unfold goT
  have h3 : W1 h d main_arg3 = mid h (sLoc d) := (W1_of_ne h d _ (by decide)).trans ((W0_of_ne m d _ (by decide)).trans (mid_of_ne h d main_arg3 (by decide)).symm)
  have h4 : W1 h d main_arg4 = mid h (tLoc d) := (W1_of_ne h d _ (by decide)).trans ((W0_of_ne m d _ (by decide)).trans (mid_of_ne h d main_arg4 (by decide)).symm)
  have h5 : W1 h d main_v5_0 = mid h (oLoc d) := (W1_of_ne h d _ (by decide)).trans ((W0_of_ne m d _ (by decide)).trans (mid_of_ne h d main_v5_0 (by decide)).symm)
  have h6 : W1 h d main_v5_1 = mid h (pLoc d) := (W1_of_ne h d _ (by decide)).trans ((W0_of_ne m d _ (by decide)).trans (mid_of_ne h d main_v5_1 (by decide)).symm)
  rw [h3, h4, h5, h6, ← mid_y, all_tiles (mid h) d (mid h (oLoc d)) (mid h (pLoc d))]

/-- The buffers after it are what the tiles bring back, and the others. -/
theorem returned (h : Ok m) (d : Dev nD) :
    (unscopedBufs d (W2 h d) : sProp 𝕄) = iprop((bigSep Finset.univ fun c : Fin ((K (F := F)).nCore 0) => (P (mid h) (mid_ok h)).dn 0 d c)
      ∗ bigSep others fun b => (d.tc : Thread nD τ).loc b ↦{fullShare} W1 h d b) := by
  rw [apart, dones, others_keep]
  unfold tdT
  have h2 : W2 h d main_v4 = mid h (yLoc d) := (W2_of_ne h d _ (by decide)).trans (mid_y h d).symm
  have h3 : W2 h d main_arg3 = mid h (sLoc d) := (W2_of_ne h d _ (by decide)).trans
    ((W1_of_ne h d _ (by decide)).trans ((W0_of_ne m d _ (by decide)).trans (mid_of_ne h d main_arg3 (by decide)).symm))
  have h4 : W2 h d main_arg4 = mid h (tLoc d) := (W2_of_ne h d _ (by decide)).trans
    ((W1_of_ne h d _ (by decide)).trans ((W0_of_ne m d _ (by decide)).trans (mid_of_ne h d main_arg4 (by decide)).symm))
  have h5 : W2 h d main_v5_0 = oFin (mid_ok h) d := (Function.update_of_ne (show main_v5_0 ≠ main_v5_1 by decide) _ _).trans (Function.update_self _ _ _)
  have h6 : W2 h d main_v5_1 = pFin (mid_ok h) d := Function.update_self _ _ _
  rw [h2, h3, h4, h5, h6, all_tiles (mid h) d (oFin (mid_ok h) d) (pFin (mid_ok h) d)]

/-! ## The launch element of the ghost state -/

/-- The gather's handshakes and the two kernels' staging. -/
def u₀ (h : Ok m) : UU :=
  (initOf (K (F := F)).hsCells (K (F := F)).hsToks,
    (initOf (Pipeline.cells (Pipeline.pin (pcfgs (F := F)) (tables h)) (cellOf_inj (tables h)))
      (Pipeline.launchToks (Pipeline.pin (pcfgs (F := F)) (tables h)) (cellOf_inj (tables h))), 1))

/-- What a device's TensorCore is given for its two kernels. -/
abbrev stages (h : Ok m) (d : Dev nD) : sProp 𝕄 :=
  iprop((bigSep Finset.univ fun p : Fin 2 => Pipeline.cellsGhost (Pipeline.pin (pcfgs (F := F)) (tables h)) EP p d)
    ∗ bigSep Finset.univ fun p : Fin 2 => Pipeline.toksInit (Pipeline.pin (pcfgs (F := F)) (tables h)) EP p d)

/-- Nothing, any number of times, is nothing. -/
theorem nothing {I : Type} (s : Finset I) : (bigSep s fun _ => iprop(emp)) = (iprop(emp) : sProp 𝕄) := bigSep_emp_const s

/-- The ghost state at the start, dealt out. -/
theorem hu₀ (h : Ok m) : (ownU (u₀ h) : sProp 𝕄)
    ⊢ |={Set.univ}=> iprop(BI.own (EH (initOf (K (F := F)).hsCells (K (F := F)).hsToks)) ∗ (bigSep Finset.univ fun d : Dev nD => stages h d)
        ∗ bigSep Finset.univ fun thr : Thread nD τ => bigSep Finset.univ fun q : Fin 1 => (P (mid h) (mid_ok h)).x q thr) := by
  unfold u₀
  iintro Hu
  ihave H := (ownU_pair (initOf (K (F := F)).hsCells (K (F := F)).hsToks)
    ((initOf (Pipeline.cells (Pipeline.pin (pcfgs (F := F)) (tables h)) (cellOf_inj (tables h)))
      (Pipeline.launchToks (Pipeline.pin (pcfgs (F := F)) (tables h)) (cellOf_inj (tables h))), 1) : UR sig nD τ × Counters)) $$ Hu
  icases H with ⟨HH, HR⟩
  ihave HR := (own_pair_emb (embR : Emb (UR sig nD τ × Counters) 𝕄) _ _) $$ HR
  icases HR with ⟨HP, -⟩
  imod (Pipeline.fund_ghost (Pipeline.pin (pcfgs (F := F)) (tables h)) EP (cellOf_inj (tables h))) $$ HP with HP
  imodintro
  isplitl [HH]; · iexact HH
  isplitl [HP]
  · rw [bigSep_sep']; iexact HP
  rw [show (bigSep Finset.univ fun thr : Thread nD τ => bigSep Finset.univ fun q : Fin 1 => (P (F := F) (mid h) (mid_ok h)).x q thr)
    = bigSep Finset.univ fun _ => iprop(emp) from bigSep_congr fun _ _ => bigSep_univ_of_subsingleton (0 : Fin 1), nothing]
  iempintro

/-! ## @main on the TensorCore -/

/-- @main is the host operations, then the three calls. -/
theorem main_eq (d : Dev nD) : main (F := F) d = (StableHlo.seq ops >>= fun _ => do
    Prog.lift (.customCall (SparseCore.inner (Pipeline.entry 0)) ())
    sc.run d 0
    Prog.lift (.customCall (SparseCore.inner (Pipeline.entry 1)) ())
    pure ⟨⟩) := rfl

/-- Two resources, one by one. -/
theorem two {G : Fin 2 → sProp 𝕄} : (bigSep Finset.univ G) = iprop(G 0 ∗ G 1) := by
  rw [show (Finset.univ : Finset (Fin 2)) = insert 0 {1} by decide, SparseCore.bigSep_insert' (by decide), bigSep_singleton]

/-- What the arrays hold at the end. -/
abbrev FIN (h : Ok m) (d : Dev nD) : sProp 𝕄 := unscopedBufs d (W3 h d)

/-- The TensorCore's run: the host operations, the first kernel, the gather, the last kernel. -/
theorem hmain [∀ e, Nonempty (Elt F e)] (h : Ok m) (κ : GSem nD τ sig → ℕ) (d : Dev nD) :
    iprop((K (F := F)).ctx EH (P (mid h) (mid_ok h)) κ ∗ (K (F := F)).tcSt EH d 0 ∗ (K (F := F)).tcRes m ρ d ∗ stages h d)
      ⊢ wp frame (wpE ((K (F := F)).defs (D (F := F))) 𝒱 (SparseCore.T d) none) Set.univ (main d)
          fun _ => iprop((K (F := F)).tcSt EH d 1 ∗ FIN h d ∗ (K (F := F)).tcEnd d) := by
  unfold SparseCore.Cfg.tcRes SparseCore.Cfg.tcEnd
  rw [main_eq, show (unscopedBufs d fun b => m ((SparseCore.T d).loc b) : sProp 𝕄)
      = StableHlo.held (d.tc : Thread nD τ) (Pipeline.ucRefs τ sig) (fun b => m (d, b)) from Pipeline.unscopedBufs_held d fun b => m (d, b)]
  iintro ⟨#Hctx, Hst, ⟨Hb, Hbufs, Hts, -⟩, Hg, Ht⟩
  ihave Hg := (Entails.of_eq two) $$ Hg
  icases Hg with ⟨Hg0, Hg1⟩
  ihave Ht := (Entails.of_eq two) $$ Ht
  icases Ht with ⟨Ht0, Ht1⟩
  ihave #Hlev := (SparseCore.Cfg.ctx_levAts κ) $$ Hctx
  iapply (StableHlo.wp_seq 𝒱 none Set.univ d (Pipeline.ucRefs τ sig) _ ops
    (fun op ho => Pipeline.sub_ucRefs op (List.forall_iff_forall_mem.mp ops_bufs op ho))
    (fun op ho => List.forall_iff_forall_mem.mp ops_fresh op ho) (fun b => m (d, b))) $$ [Hb Hbufs]
  · isplitl [Hb] <;> iassumption
  iintro ⟨Hb, Hbufs⟩
  ihave Hbufs := (Entails.of_eq (Pipeline.unscopedBufs_held (Ix := HIx 1) (Name := ℕ) (U := UU) (Lvl := ℕ) d
    (StableHlo.after ops fun b => m (d, b))).symm) $$ Hbufs
  simp only [wp_bind, wp_pure]
  iapply (Region.seg_wp (tables h) (pdats h) (first h) d)
  rw [first_pre, first_post]
  isplitr [Hb Hbufs Hst Hg0 Ht0]
  · iintro ⟨Hb, Hbufs, Hst⟩
    ihave Hbufs := (Entails.of_eq (given h d)) $$ Hbufs
    icases Hbufs with ⟨Hgo, Hoth⟩
    iapply ((K (F := F)).wp_run (D (F := F)) 𝒱 (EH := EH) (P := P (mid h) (mid_ok h)) κ d 0)
    isplitr; · iexact Hctx
    isplitl [Hst]; · iexact Hst
    isplitl [Hgo]; · iexact Hgo
    iintro ⟨Hst, Hdn⟩
    ihave Hbufs := (Entails.of_eq (returned h d).symm) $$ [Hdn Hoth]
    · isplitl [Hdn] <;> iassumption
    iapply (Region.seg_wp (tables h) (pdats h) (last h) d)
    rw [last_pre, last_post]
    isplitr [Hb Hbufs Hst Hg1 Ht1]
    · iintro ⟨Hb, Hbufs, Hst⟩
      imodintro
      isplitl [Hst]; · iexact Hst
      isplitl [Hbufs]; · iexact Hbufs
      isplitl [Hb] <;> iassumption
    isplitl [Hb]; · iexact Hb
    isplitl [Hbufs Hst]
    · isplitl [Hbufs]; · iexact Hbufs
      iexact Hst
    isplitr; · iexact Hlev
    isplitl [Hg1]; · iexact Hg1
    iexact Ht1
  isplitl [Hb]; · iexact Hb
  isplitl [Hbufs Hst]
  · isplitl [Hbufs]; · iexact Hbufs
    iexact Hst
  isplitr; · iexact Hlev
  isplitl [Hg0]; · iexact Hg0
  iexact Ht0

/-! ## The memory at the end -/

/-- A buffer held in full is what the memory has. -/
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr [HSI]
  · ipureintro; exact funext fun i => h1 i (Finset.mem_univ i)
  · iexact HSI

/-- And so for any set of buffers. -/
theorem agree_all (d : Dev nD) (W : (b : Ref sig .tc) → Buf (Elt F) ((d.tc : Thread nD τ).loc b)) (s' : Phys nD τ sig (Elt F)) (A : Finset (Ref sig .tc)) :
    iprop((bigSep A fun b => (d.tc : Thread nD τ).loc b ↦{fullShare} W b) ∗ SI s')
      ⊢ (iprop(⌜∀ b ∈ A, s'.mem.mem ((d.tc : Thread nD τ).loc b) = W b⌝ ∗ SI s') : sProp 𝕄) := by
  induction A using Finset.induction_on with
  | empty =>
    iintro ⟨-, HSI⟩
    isplitr [HSI]
    · ipureintro; exact fun b hb => absurd hb (Finset.notMem_empty b)
    · iexact HSI
  | insert b A hb ih =>
    rw [SparseCore.bigSep_insert' hb]
    iintro ⟨⟨Hb, HA⟩, HSI⟩
    ihave H := (agree (W b) s') $$ [Hb HSI]
    · isplitl [Hb] <;> iassumption
    icases H with ⟨%h1, HSI⟩
    ihave H := ih $$ [HA HSI]
    · isplitl [HA] <;> iassumption
    icases H with ⟨%h2, HSI⟩
    isplitr [HSI]
    · ipureintro
      intro x hx
      rcases Finset.mem_insert.mp hx with rfl | hx
      · exact h1
      · exact h2 x hx
    · iexact HSI

/-- What is known of the memory at the end. -/
def known (h : Ok m) (d : Dev nD) (s' : Phys nD τ sig (Elt F)) : Prop :=
  ∀ b ∈ Finset.univ.filter fun b : Ref sig .tc => ¬ b.isScoped, s'.mem.mem ((d.tc : Thread nD τ).loc b) = W3 h d b

/-- The arrays' contents are known of the memory at the end. -/
theorem hfin (h : Ok m) (d : Dev nD) (s' : Phys nD τ sig (Elt F)) : iprop(FIN h d ∗ SI s') ⊢ (⌜known h d s'⌝ : sProp 𝕄) := by
  unfold FIN unscopedBufs known
  iintro H
  ihave H := (agree_all d (W3 h d) s' _) $$ H
  icases H with ⟨%h1, -⟩
  ipureintro; exact h1

/-! ## The program's run -/

/-- The buffers end at `W3`, the semaphores at zero. -/
def QC (h : Ok m) : PUnit × MemSt nD τ sig (Elt F) → Prop := fun r =>
  (∀ c : Dev nD, ∀ b ∈ Finset.univ.filter fun b : Ref sig .tc => ¬ b.isScoped, r.2.mem ((c.tc : Thread nD τ).loc b) = W3 h c b) ∧ r.2.sem = fun _ => 0

/-- Every run of the program ends so. -/
theorem run_main [∀ e, Nonempty (Elt F e)] (h : Ok m) :
    θ_run (Cert.KernelIdeal.defs (F := F)) (Cert.KernelIdeal.threads (F := F)) ⟨m, fun _ => 0, ρ⟩ (QC h) :=
  SparseCore.Cfg.θ_run_sc_quiescent (K := K (F := F)) (D := D (F := F)) (𝒱 := 𝒱) (EH := EH) (P := P (mid h) (mid_ok h)) (A := ∅) facts v₀
    (fun q hq => match q with | 0 => nomatch hq)
    (fun q _ => match q with | 0 => tileObl (mid h) facts (mid_ok h))
    (fun q _ => match q with | 0 => SparseCore.Cfg.VecSplit.of_plain (vecSplit (mid h) (mid_ok h)))
    m ρ main (stages h) (FIN h) (u₀ h) (sep_elim_left.trans (hu₀ h)) (hmain ρ h) (known h) (hfin h) (QC h) (fun _ h hz => ⟨h, hz⟩)

/-! ## What the buffers hold at the end -/

/-- An argument is as it was. -/
theorem W3_arg (h : Ok m) (c : Dev nD) (b : Ref sig .tc)
    (hb : b ≠ main_v6 ∧ (b ≠ main_v5_0 ∧ b ≠ main_v5_1) ∧ b ≠ main_v4 ∧ b ≠ main_v0 ∧ b ≠ main_v1 ∧ b ≠ main_v2 ∧ b ≠ main_v3) :
    W3 h c b = m ((c : Thread nD τ).loc b) :=
  (W3_of_ne h c b hb.1).trans ((W2_of_ne h c b hb.2.1).trans ((W1_of_ne h c b hb.2.2.1).trans (W0_of_ne m c b hb.2.2.2)))

/-- An argument is as it was also before the last kernel. -/
theorem W2_arg (h : Ok m) (c : Dev nD) (b : Ref sig .tc)
    (hb : (b ≠ main_v5_0 ∧ b ≠ main_v5_1) ∧ b ≠ main_v4 ∧ b ≠ main_v0 ∧ b ≠ main_v1 ∧ b ≠ main_v2 ∧ b ≠ main_v3) :
    W2 h c b = m ((c : Thread nD τ).loc b) :=
  (W2_of_ne h c b hb.1).trans ((W1_of_ne h c b hb.2.1).trans (W0_of_ne m c b hb.2.2))

/-- The rows the first kernel makes, of the arguments. -/
theorem made_eq (h : Ok m) (c : Dev nD) : made h c = Ffn.rows (m ((SparseCore.T c).loc main_arg1))
    (truncf .bf16 (m ((SparseCore.T c).loc main_arg7)) bitsLt_bf16_f32) (shapeCast S8x1x256 (m ((SparseCore.T c).loc main_arg8)) shapeCasts_S8x256_S8x1x256)
    (truncf .bf16 (m ((SparseCore.T c).loc main_arg9)) bitsLt_bf16_f32) (shapeCast S8x1x64 (m ((SparseCore.T c).loc main_arg10)) shapeCasts_S8x64_S8x1x64)
    (m ((SparseCore.T c).loc main_arg2)) (h.1 c) := by
  unfold made
  rw [W0_of_ne m c main_arg1 (by decide)]
  rfl

/-- The same rows of the same table. -/
theorem named_congr {f f' : Vec F S81920x128 .f32} {s s' : S256x128.Idx → BitVec 32} {h : ∀ j, (s j).toNat < 81920} {h' : ∀ j, (s' j).toNat < 81920}
    (hf : f = f') (hs : s = s') : named (F := F) f s h = named (F := F) f' s' h' := by subst hf hs; rfl

/-- The result: the states plus the rows the lists name, weighted. -/
theorem W3_out (h : Ok m) (c : Dev nD) : W3 h c main_v6 = Combine.mix (n := 32768) (m ((SparseCore.T c).loc main_arg0))
    (named (F := F) (made h c) (m (sLoc c)) (h.2 c).1) (named (F := F) (made h c) (m (tLoc c)) (h.2 c).2)
    (m ((SparseCore.T c).loc main_arg5)) (m ((SparseCore.T c).loc main_arg6)) := by
  have h5 : W2 h c main_v5_0 = named (F := F) (made h c) (m (sLoc c)) (h.2 c).1 :=
    (Function.update_of_ne (show main_v5_0 ≠ main_v5_1 by decide) _ _).trans ((Function.update_self _ _ _).trans
      (named_congr ((mid_y h c).trans (Function.update_self _ _ _)) (mid_of_ne h c main_arg3 (by decide))))
  have h6 : W2 h c main_v5_1 = named (F := F) (made h c) (m (tLoc c)) (h.2 c).2 :=
    (Function.update_self _ _ _).trans (named_congr ((mid_y h c).trans (Function.update_self _ _ _)) (mid_of_ne h c main_arg4 (by decide)))
  refine (Function.update_self (f := W2 h c) main_v6 _).trans ?_
  rw [h5, h6, W2_arg h c main_arg0 (by decide), W2_arg h c main_arg5 (by decide), W2_arg h c main_arg6 (by decide)]

end Cert.Proof.Launch

end
-- ==== Proof.Printed.lean ====
/-
  The printed program and the one read over the reals have the same text, each in its own declarations. A run of the
  one is a run of the other: the tables of grid calls and of bodies are the same, compared one entry at a time, and
  the rest of a program is a function of the two tables.
-/
module
public import proofs.«01_k».proof.Proof.Gen.Kernel
public import proofs.«01_k».proof.Proof.Gen.KernelIdeal

@[expose] public section

set_option maxHeartbeats 1000000

noncomputable section

namespace Cert.Proof.Printed

open Idealize.ShloMosaic Idealize.SL.Sem Cert.KernelIdeal Cert.KernelIdeal.Facts₀ Cert.KernelIdeal.Facts

variable {F : FTy → Type} [FloatOps F]
variable (pc : Fin 2 → Pipeline.PCfg sig Λ₀ (Elt F)) (d₀ : Defs nD τ sig (Elt F) Λ₀)

/-- The gather's call, from the table of grid calls. -/
def call : SparseCore.Cfg τ sig (Pipeline.Sig Λ₀ (Fin 2) fun p => (pc p).Adm) 1 where
  kind := scKind
  nCore := scNCore
  nSub := scNSub
  hkind := hscKind
  hCore := hscCore
  hSub := hscSub
  body := fun | 0 => Pipeline.kernel 1 | ⟨_ + 1, h⟩ => absurd h (Nat.not_lt.2 (Nat.le_add_left _ _))
  args := fun | 0 => ⟨⟩ | ⟨_ + 1, h⟩ => absurd h (Nat.not_lt.2 (Nat.le_add_left _ _))
  start := sc_start
  done := sc_done
  go := sc_go
  taskDone := sc_taskDone

/-- The program's text, from the table of grid calls. -/
def body : Dev nD → Prog (TpuEff nD τ sig (Elt F) (SparseCore.Sig (Pipeline.Sig Λ₀ (Fin 2) fun p => (pc p).Adm) 1) .tc) PUnit := fun d => do
  hlo rfl (StableHlo.unary main_arg7 main_v0 ((truncf .bf16 · bitsLt_bf16_f32) : (⟨S8x64x256, .f32⟩ : BufTy).Contents (Elt F) → (⟨S8x64x256, .bf16⟩ : BufTy).Contents (Elt F))) (fun _ => .ret ⟨⟩)
  hlo rfl (StableHlo.reshape main_arg8 main_v1 (rfl : (.f32 : EltTy) = .f32) shapeCasts_S8x256_S8x1x256) (fun _ => .ret ⟨⟩)
  hlo rfl (StableHlo.unary main_arg9 main_v2 ((truncf .bf16 · bitsLt_bf16_f32) : (⟨S8x256x64, .f32⟩ : BufTy).Contents (Elt F) → (⟨S8x256x64, .bf16⟩ : BufTy).Contents (Elt F))) (fun _ => .ret ⟨⟩)
  hlo rfl (StableHlo.reshape main_arg10 main_v3 (rfl : (.f32 : EltTy) = .f32) shapeCasts_S8x64_S8x1x64) (fun _ => .ret ⟨⟩)
  Prog.lift (.customCall (SparseCore.inner (Pipeline.entry 0)) ())
  (call pc).run d 0
  Prog.lift (.customCall (SparseCore.inner (Pipeline.entry 1)) ())
  pure ⟨⟩

/-- A run, from the two tables. -/
def Run (m : (ℓ : Loc nD τ sig) → Buf (Elt F) ℓ) (ρ : Dev nD → PrngReg) (Q : PUnit × MemSt nD τ sig (Elt F) → Prop) : Prop :=
  θ_run ((call pc).defs (Pipeline.defs pc d₀)) ((call pc).threads (body pc)) ⟨m, fun _ => 0, ρ⟩ Q
/-- The run of the program read over the reals, from its tables. -/
theorem to_run (m : (ℓ : Loc nD τ sig) → Buf (Elt F) ℓ) (ρ : Dev nD → PrngReg) (Q : PUnit × MemSt nD τ sig (Elt F) → Prop)
    (h : θ_run defs threads ⟨m, fun _ => 0, ρ⟩ Q) : Run pcfgs defs₀ m ρ Q := h

/-- The printed program's run, from its tables. -/
theorem of_run (m : (ℓ : Loc nD τ sig) → Buf (Elt F) ℓ) (ρ : Dev nD → PrngReg) (Q : PUnit × MemSt nD τ sig (Elt F) → Prop)
    (h : Run Cert.Kernel.pcfgs Cert.Kernel.defs₀ m ρ Q) : θ_run Cert.Kernel.defs Cert.Kernel.threads ⟨m, fun _ => 0, ρ⟩ Q := h

/-- The two tables of grid calls. -/
theorem pcfgs_eq : Cert.Kernel.pcfgs (F := F) = pcfgs (F := F) := by
  funext p
  match p with
  | 0 => exact rfl
  | 1 => exact rfl

/-- The two tables of bodies. -/
theorem defs_eq : (Cert.Kernel.defs₀ : Defs nD τ sig (Elt F) Λ₀) = defs₀ := by
  funext p ℓ a
  match p, ℓ, a with
  | .tc, 0, (t, s) => rfl
  | .tc, 1, a => rfl
  | .tc, 2, (t, s) => rfl
  | .scVector c s, 0, a => rfl
  | .scVector c s, 1, a => rfl
  | .scVector c s, 2, a => rfl
  | .scScalar c, 0, a => rfl
  | .scScalar c, 1, a => rfl
  | .scScalar c, 2, a => rfl

/-- What a run of the one ends with, a run of the other does. -/
theorem printed (m : (ℓ : Loc nD τ sig) → Buf (Elt F) ℓ) (ρ : Dev nD → PrngReg) (Q : PUnit × MemSt nD τ sig (Elt F) → Prop)
    (h : θ_run defs threads ⟨m, fun _ => 0, ρ⟩ Q) : θ_run Cert.Kernel.defs Cert.Kernel.threads ⟨m, fun _ => 0, ρ⟩ Q :=
  of_run m ρ Q (by rw [pcfgs_eq, defs_eq]; exact to_run m ρ Q h)

end Cert.Proof.Printed

end
-- ==== Proof.Reference.lean ====
/-
  The reference's gathers, and the precondition. The reference flattens a slot list and takes the rows it names; the
  precondition says of every word of the three index arguments that it is in range.
-/
module

public import proofs.«01_k».proof.Defs
public import proofs.«01_k».proof.Proof.Launch
public import proofs.«01_k».proof.Proof.Gen.Pre_in_range
public import proofs.«01_k».proof.Proof.Gen.ReferenceIdeal.Run
public import Idealize.ShloMosaic.Lib.ReduceAll
public import Idealize.ShloMosaic.Lib.Routing.Ops
public import Idealize.ShloMosaic.Lib.WordCmp

@[expose] public section

noncomputable section

namespace Cert.Proof.Reference

open Idealize.ShloMosaic Idealize.ShloMosaic.ValueIdx Idealize.SL.Sem
open Cert.ReferenceIdeal (S81920x128 S81920x64 S256x128 S32768x64 S32768 S32768x1 S40 S8x64x256 S8x256 S8x256x64 S8x64 S_)
open Cert.Proof.Gather (at2)

variable {F : FTy → Type} [FloatOps F]

/-- The rows of `fy` at the flattened list, an index below zero counted from the end. -/
abbrev taken (fy : FVec F S81920x64 .f32) (fs : IVec S256x128 32) : FVec F S32768x64 .f32 :=
  Host.gather Cert.ReferenceIdeal.gather_S81920x64_S32768x1_S32768x64_1_0_n_n_0_1_164 fy
    (broadcastInDim S32768x1 ![0] Cert.ReferenceIdeal.Facts₀.bcast_S32768_S32768x1_0
      (select (cmpi .slt (shapeCast S32768 fs Cert.ReferenceIdeal.Facts₀.shapeCasts_S256x128_S32768)
          (broadcastInDim S32768 ![] Cert.ReferenceIdeal.Facts₀.bcast_S_S32768 (constantI S_ 32 0#32)))
        (addi (shapeCast S32768 fs Cert.ReferenceIdeal.Facts₀.shapeCasts_S256x128_S32768)
          (broadcastInDim S32768 ![] Cert.ReferenceIdeal.Facts₀.bcast_S_S32768 (constantI S_ 32 81920#32)))
        (shapeCast S32768 fs Cert.ReferenceIdeal.Facts₀.shapeCasts_S256x128_S32768)))

/-- The row a list names for token `n`. -/
def slot (fs : IVec S256x128 32) (h : ∀ j, (fs j).toNat < 81920) (n : Fin 32768) : Fin 81920 :=
  ⟨(fs (at2 ⟨n.val / 128, by omega⟩ ⟨n.val % 128, Nat.mod_lt _ (by decide)⟩)).toNat, h _⟩

/-- Where every slot names a row, neither the step for negative indices nor the clamp changes one. -/
theorem taken_at (fy : FVec F S81920x64 .f32) (fs : IVec S256x128 32) (h : ∀ j, (fs j).toNat < 81920) (n : Fin 32768) (c : Fin 64) :
    taken fy fs (at2 n c) = fy (at2 (slot fs h n) c) := by
  have e : (at2 n c : S32768x64.Idx) = ix2 n c := by funext a; match a with | 0 => rfl | 1 => rfl
  have hc : shapeCast S32768 fs Cert.ReferenceIdeal.Facts₀.shapeCasts_S256x128_S32768 (ix1 n)
      = fs (at2 ⟨n.val / 128, by omega⟩ ⟨n.val % 128, Nat.mod_lt _ (by decide)⟩) :=
    (Routing.cast21 (a := 256) (b := 128) (n := 32768) fs _ ⟨n.val / 128, by omega⟩ ⟨n.val % 128, Nat.mod_lt _ (by decide)⟩ n
      (by show n.val = n.val / 128 * 128 + n.val % 128; omega)).trans
      (congrArg fs (funext fun a => match a with | 0 => rfl | 1 => rfl))
  have hlt := h (at2 ⟨n.val / 128, by omega⟩ ⟨n.val % 128, Nat.mod_lt _ (by decide)⟩)
  rw [e]
  refine (Routing.gather_row _ rfl rfl rfl rfl rfl fy _ n c ⟨_, hlt⟩ ?_ (by decide)).trans ?_
  · refine (Routing.bcCol (n := 32768) _ _ n).trans ?_
    show (if IntOp.cmpi .slt (shapeCast S32768 fs _ (ix1 n)) 0#32 = 1#1 then _ else _) = _
    rw [if_neg]
    · rw [hc]; simp
    · rw [hc]
      have hz : ¬ (fs (at2 ⟨n.val / 128, by omega⟩ ⟨n.val % 128, Nat.mod_lt _ (by decide)⟩)).toNat < (0#32 : BitVec 32).toNat := by simp
      exact fun k => hz ((StableHlo.Predicate.slt_iff_toNat (by omega) (by decide)).1 k)
  · refine congrArg fy ?_
    funext a
    match a with
    | 0 => rfl
    | 1 => rfl

/-! ## The precondition -/

/-- A word at or above zero and below a bound, read signed, is below it. -/
theorem below (v k : BitVec 32) (hk : k.toNat < 2 ^ 31) (e : IntOp.andi (IntOp.cmpi .sge v 0#32) (IntOp.cmpi .slt v k) = 1#1) : v.toNat < k.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition as a statement about the tiles' words and the two lists. -/
theorem ranges (a0 : FVec F S32768x64 .f32) (a1 : FVec F S81920x128 .f32) (w : IVec S40 32) (fs ft : IVec S256x128 32) (a5 a6 : FVec F S32768x1 .f32)
    (a7 : FVec F S8x64x256 .f32) (a8 : FVec F S8x256 .f32) (a9 : FVec F S8x256x64 .f32) (a10 : FVec F S8x64 .f32)
    (h : Cert.Pre_in_range.fn (F := F) a0 a1 w fs ft a5 a6 a7 a8 a9 a10 = fun _ => 1#1) :
    (∀ j, (w j).toNat < 8) ∧ (∀ j, (fs j).toNat < 81920) ∧ ∀ j, (ft j).toNat < 81920 := by
  have e := congrFun h ix0
  have both (a b : BitVec 1) (k : IntOp.andi a b = 1#1) : a = 1#1 ∧ b = 1#1 := by
    revert k; revert a b; decide
  obtain ⟨e12, e3⟩ := both _ _ e
  obtain ⟨e1, e2⟩ := both _ _ e12
  have : Subsingleton S_.Idx := ⟨fun a b => funext fun k => k.elim0⟩
  exact ⟨fun j => below _ 8#32 (by decide) (Host.reduce_andi_all _ _ _ _ _ e1 j), fun j => below _ 81920#32 (by decide) (Host.reduce_andi_all _ _ _ _ _ e2 j),
    fun j => below _ 81920#32 (by decide) (Host.reduce_andi_all _ _ _ _ _ e3 j)⟩

/-- The printed program's memory is as the proof asks under its precondition. -/
theorem ok_of_pre_bits (m : (ℓ : Loc Cert.Kernel.nD Cert.Kernel.τ Cert.Kernel.sig) → Buf (Elt Bits) ℓ) (h : Cert.Pre_Kernel m) :
    Launch.Ok (F := Bits) m := by
  have r := fun d => ranges _ _ _ _ _ _ _ _ _ _ _ (h d)
  exact ⟨fun d => (r d).1, fun d => (r d).2⟩

/-- The same for the program read over the reals. -/
theorem ok_of_pre (m : (ℓ : Loc Cert.KernelIdeal.nD Cert.KernelIdeal.τ Cert.KernelIdeal.sig) → Buf (Elt Ideal) ℓ) (h : Cert.Pre_KernelIdeal m) :
    Launch.Ok (F := Ideal) m := by
  have r := fun d => ranges _ _ _ _ _ _ _ _ _ _ _ (h d)
  exact ⟨fun d => (r d).1, fun d => (r d).2⟩

end Cert.Proof.Reference

end
-- ==== Proof.Value.lean ====
/-
  The value. At each element both sides are the token's row plus its two gated expert rows; an expert row is the two
  layers of a dispatched row at its tile's expert. The kernel runs one expert per tile; the reference runs all eight on
  every row, each times its mask, and the masks of the other seven are zero.
-/
module

public import proofs.«01_k».proof.Proof.Launch
public import proofs.«01_k».proof.Proof.Reference
public import proofs.«01_k».proof.Proof.Gen.ReferenceIdeal.Run
public import Idealize.ShloMosaic.Lib.Pointwise

@[expose] public section

set_option maxRecDepth 16384

noncomputable section

namespace Cert.Proof.Value

open Cert.KernelIdeal Cert.KernelIdeal.Gen
open Idealize.ShloMosaic
open Cert.Proof.Gather (at1 at2 named)
open Cert.Proof.Reference (taken taken_at slot)
open Cert.Proof.Ffn (at3 front tile rows Named expert)

section
variable (xs : FVec Ideal S81920x128 .f32) (W1 : FVec Ideal S8x64x256 .f32) (b1 : FVec Ideal S8x256 .f32)
  (W2 : FVec Ideal S8x256x64 .f32) (b2 : FVec Ideal S8x64 .f32)

/-- The first layer of row `r` at expert `e`, before its activation. -/
def inner (e : Fin 8) (r : Fin 81920) (j : Fin 256) : EReal :=
  (∑ k : Fin 64, xs (ix2 r (Fin.castLE (by decide) k)) * W1 (ix3 e k j)) + b1 (ix2 e j)

/-- The activation. -/
def act (v : EReal) : EReal :=
  v * (Ideal.ofBits .f32 1056964608#32 * (1 + Ideal.tanh (Ideal.ofBits .f32 1061962282#32 * (v + Ideal.ofBits .f32 1027024659#32 * (v * (v * v))))))

/-- Both layers. -/
def outer (e : Fin 8) (r : Fin 81920) (c : Fin 64) : EReal :=
  (∑ j : Fin 256, act (inner xs W1 b1 e r j) * W2 (ix3 e j c)) + b2 (ix2 e c)

/-- The two ways to write an index with two coordinates. -/
theorem at2_eq {n k : ℕ} (a : Fin n) (b : Fin k) : at2 a b = ix2 a b := funext fun x => match x with | 0 => rfl | 1 => rfl
/-- The two ways to write an index with three coordinates. -/
theorem at3_eq {n k l : ℕ} (a : Fin n) (b : Fin k) (c : Fin l) : at3 a b c = ix3 a b c := funext fun x => match x with | 0 => rfl | 1 => rfl | 2 => rfl

/-- The first 64 columns of a block, at a word. -/
theorem front_at (x : FVec Ideal S2048x128 .f32) (r : Fin 2048) (k : Fin 64) :
    front (F := Ideal) x (ix2 r k) = x (ix2 r (Fin.castLE (by decide) k)) :=
  congrArg x (at2_eq _ _)

/-- The kernel's payload depends on its five blocks only through their entries. -/
theorem pay_congr {x x' : FVec Ideal S2048x64 .f32} {w w' : FVec Ideal S1x64x256 .bf16} {b b' : FVec Ideal S1x1x256 .f32} {v v' : FVec Ideal S1x256x64 .bf16}
    {d d' : FVec Ideal S1x1x64 .f32} (hx : x = x') (hw : w = w') (hb : b = b') (hv : v = v') (hd : d = d') :
    k0_pay1 (F := Ideal) x w b v d = k0_pay1 (F := Ideal) x' w' b' v' d' := by
  subst hx hw hb hv hd; rfl

/-- The first kernel's block, at a word: both layers at the tile's expert. -/
theorem tile_at (t : Fin 40) (e : Fin 8) (r : Fin 2048) (c : Fin 64) (q : Fin 81920) (hq : q.val = t.val * 2048 + r.val) :
    tile (F := Ideal) xs (truncf .bf16 W1 bitsLt_bf16_f32) (shapeCast S8x1x256 b1 shapeCasts_S8x256_S8x1x256) (truncf .bf16 W2 bitsLt_bf16_f32)
      (shapeCast S8x1x64 b2 shapeCasts_S8x64_S8x1x64) t e (ix2 r (Fin.castLE (by decide) c)) = outer xs W1 b1 W2 b2 e q c := by
  have hlt : t.val * 2048 + r.val < 81920 := by
    have ht := t.isLt
    have hr := r.isLt
    clear hq; omega
  obtain rfl : q = ⟨t.val * 2048 + r.val, hlt⟩ := Fin.ext hq
  refine (congrFun (pay_congr (x' := fun y => xs (ix2 ⟨t.val * 2048 + (y 0).val, by have : (y 0).val < 2048 := (y 0).isLt; omega⟩ (Fin.castLE (m := 128) (n := 64) (by decide) (y 1))))
    (w' := fun y => W1 (ix3 e (y 1) (y 2))) (b' := fun y => b1 (ix2 e (y 2))) (v' := fun y => W2 (ix3 e (y 1) (y 2))) (d' := fun y => b2 (ix2 e (y 2)))
    ?_ ?_ ?_ ?_ ?_) _).trans ?_
  · exact funext fun y => congrArg xs (at2_eq _ _)
  · exact funext fun y => congrArg W1 (at3_eq _ _ _)
  · refine funext fun y => ?_
    idx_vars y
    rw [at3_eq]
    pointwise
  · exact funext fun y => congrArg W2 (at3_eq _ _ _)
  · refine funext fun y => ?_
    idx_vars y
    rw [at3_eq]
    pointwise
  pointwise [k0_pay1]
  exact dif_pos c.isLt

end

section
variable (V0 : Valuation Cert.ReferenceIdeal.τ Cert.ReferenceIdeal.sig (Elt Ideal))
open Cert.ReferenceIdeal.Value

/-- The arguments, as the reference's memory has them. -/
abbrev gXs : FVec Ideal S81920x128 .f32 := V0 (Proc.devRef .tc Cert.ReferenceIdeal.main_arg1)
/-- The tiles' experts. -/
abbrev gWord : IVec S40 32 := V0 (Proc.devRef .tc Cert.ReferenceIdeal.main_arg2)
/-- The first weights. -/
abbrev gW1 : FVec Ideal S8x64x256 .f32 := V0 (Proc.devRef .tc Cert.ReferenceIdeal.main_arg7)
/-- The first biases. -/
abbrev gB1 : FVec Ideal S8x256 .f32 := V0 (Proc.devRef .tc Cert.ReferenceIdeal.main_arg8)
/-- The second weights. -/
abbrev gW2 : FVec Ideal S8x256x64 .f32 := V0 (Proc.devRef .tc Cert.ReferenceIdeal.main_arg9)
/-- The second biases. -/
abbrev gB2 : FVec Ideal S8x64 .f32 := V0 (Proc.devRef .tc Cert.ReferenceIdeal.main_arg10)

/-- The first layer of every expert, as the reference has it. -/
theorem inner_all (r : Fin 81920) (j : Fin 256) :
    res_main_v14 V0 (ix2 r j) = inner (gXs V0) (gW1 V0) (gB1 V0) 0 r j
      ∧ res_main_v51 V0 (ix2 r j) = inner (gXs V0) (gW1 V0) (gB1 V0) 1 r j
      ∧ res_main_v88 V0 (ix2 r j) = inner (gXs V0) (gW1 V0) (gB1 V0) 2 r j
      ∧ res_main_v125 V0 (ix2 r j) = inner (gXs V0) (gW1 V0) (gB1 V0) 3 r j
      ∧ res_main_v162 V0 (ix2 r j) = inner (gXs V0) (gW1 V0) (gB1 V0) 4 r j
      ∧ res_main_v199 V0 (ix2 r j) = inner (gXs V0) (gW1 V0) (gB1 V0) 5 r j
      ∧ res_main_v236 V0 (ix2 r j) = inner (gXs V0) (gW1 V0) (gB1 V0) 6 r j
      ∧ res_main_v273 V0 (ix2 r j) = inner (gXs V0) (gW1 V0) (gB1 V0) 7 r j := by
  unfold res_main_v14 res_main_v51 res_main_v88 res_main_v125 res_main_v162 res_main_v199 res_main_v236 res_main_v273
  refine ⟨?_, ?_, ?_, ?_, ?_, ?_, ?_, ?_⟩ <;> (pointwise; rfl)

/-- The expert word of a row is its tile's. -/
theorem word_at (r : Fin 81920) : res_main_v1 V0 (ix1 r) = gWord V0 (ix1 ⟨r.val / 2048, by omega⟩) := by
  unfold res_main_v1
  pointwise
  try rfl

/-- The reference's activation is `act`. -/
theorem act_eq (v : EReal) : v * (Ideal.ofBits .f32 1056964608#32 * (1 + Ideal.tanh (Ideal.ofBits .f32 1061962282#32
    * (v + Ideal.ofBits .f32 1027024659#32 * (v * v * v))))) = act v := by
  unfold act; rw [mul_assoc v v v]

/-- A mask that is set is one. -/
theorem on : FloatOps.uitofp (F := Ideal) .f32 (1#1) = (1 : EReal) := by
  show (((1#1).toNat : ℝ) : EReal) = 1
  norm_num
/-- A mask that is not set is zero. -/
theorem off : FloatOps.uitofp (F := Ideal) .f32 (0#1) = (0 : EReal) := by
  show (((0#1).toNat : ℝ) : EReal) = 0
  norm_num

/-- Where the word is `e`, the sum of the experts under their masks is expert `e`. -/
theorem pick (e : Fin 8) (f : Fin 8 → EReal) :
    FloatOps.uitofp (F := Ideal) .f32 (IntOp.cmpi .eq (BitVec.ofNat 32 e.val) 0#32) * f 0
      + FloatOps.uitofp (F := Ideal) .f32 (IntOp.cmpi .eq (BitVec.ofNat 32 e.val) 1#32) * f 1
      + FloatOps.uitofp (F := Ideal) .f32 (IntOp.cmpi .eq (BitVec.ofNat 32 e.val) 2#32) * f 2
      + FloatOps.uitofp (F := Ideal) .f32 (IntOp.cmpi .eq (BitVec.ofNat 32 e.val) 3#32) * f 3
      + FloatOps.uitofp (F := Ideal) .f32 (IntOp.cmpi .eq (BitVec.ofNat 32 e.val) 4#32) * f 4
      + FloatOps.uitofp (F := Ideal) .f32 (IntOp.cmpi .eq (BitVec.ofNat 32 e.val) 5#32) * f 5
      + FloatOps.uitofp (F := Ideal) .f32 (IntOp.cmpi .eq (BitVec.ofNat 32 e.val) 6#32) * f 6
      + FloatOps.uitofp (F := Ideal) .f32 (IntOp.cmpi .eq (BitVec.ofNat 32 e.val) 7#32) * f 7 = f e := by
  have mask : ∀ k : Fin 8, FloatOps.uitofp (F := Ideal) .f32 (IntOp.cmpi .eq (BitVec.ofNat 32 e.val) (BitVec.ofNat 32 k.val)) = if e = k then (1 : EReal) else 0 := fun k => by
    have hb : IntOp.cmpi .eq (BitVec.ofNat 32 e.val) (BitVec.ofNat 32 k.val) = if e = k then 1#1 else 0#1 := by
      revert e k; decide
    rw [hb]
    split
    · exact on
    · exact off
  have h0 := mask 0; have h1 := mask 1; have h2 := mask 2; have h3 := mask 3
  have h4 := mask 4; have h5 := mask 5; have h6 := mask 6; have h7 := mask 7
  rw [show FloatOps.uitofp (F := Ideal) .f32 (IntOp.cmpi .eq (BitVec.ofNat 32 e.val) 0#32) = _ from h0,
    show FloatOps.uitofp (F := Ideal) .f32 (IntOp.cmpi .eq (BitVec.ofNat 32 e.val) 1#32) = _ from h1,
    show FloatOps.uitofp (F := Ideal) .f32 (IntOp.cmpi .eq (BitVec.ofNat 32 e.val) 2#32) = _ from h2,
    show FloatOps.uitofp (F := Ideal) .f32 (IntOp.cmpi .eq (BitVec.ofNat 32 e.val) 3#32) = _ from h3,
    show FloatOps.uitofp (F := Ideal) .f32 (IntOp.cmpi .eq (BitVec.ofNat 32 e.val) 4#32) = _ from h4,
    show FloatOps.uitofp (F := Ideal) .f32 (IntOp.cmpi .eq (BitVec.ofNat 32 e.val) 5#32) = _ from h5,
    show FloatOps.uitofp (F := Ideal) .f32 (IntOp.cmpi .eq (BitVec.ofNat 32 e.val) 6#32) = _ from h6,
    show FloatOps.uitofp (F := Ideal) .f32 (IntOp.cmpi .eq (BitVec.ofNat 32 e.val) 7#32) = _ from h7]
  clear h0 h1 h2 h3 h4 h5 h6 h7 mask
  fin_cases e <;> simp

/-- A row of the reference's rows, where its tile's word is `e`, is both layers at expert `e`. -/
theorem ref_ys (e : Fin 8) (r : Fin 81920) (c : Fin 64) (he : gWord V0 (ix1 ⟨r.val / 2048, by omega⟩) = BitVec.ofNat 32 e.val) :
    res_main_v298 V0 (ix2 r c) = outer (gXs V0) (gW1 V0) (gB1 V0) (gW2 V0) (gB2 V0) e r c := by
  unfold res_main_v298 res_main_v150
  pointwise
  rw [word_at, he]
  simp only [(inner_all V0 r _).1, (inner_all V0 r _).2.1, (inner_all V0 r _).2.2.1, (inner_all V0 r _).2.2.2.1, (inner_all V0 r _).2.2.2.2.1,
    (inner_all V0 r _).2.2.2.2.2.1, (inner_all V0 r _).2.2.2.2.2.2.1, (inner_all V0 r _).2.2.2.2.2.2.2, act_eq]
  exact pick e fun e => outer (gXs V0) (gW1 V0) (gB1 V0) (gW2 V0) (gB2 V0) e r c

/-- A row of the kernel's rows, below its padding, is both layers of the row at its tile's expert. -/
theorem rows_outer (xs : FVec Ideal S81920x128 .f32) (W1 : FVec Ideal S8x64x256 .f32) (b1 : FVec Ideal S8x256 .f32)
    (W2 : FVec Ideal S8x256x64 .f32) (b2 : FVec Ideal S8x64 .f32) (w : S40.Idx → BitVec 32) (h : Named w) (q : Fin 81920) (c : Fin 64) :
    rows (F := Ideal) xs (truncf .bf16 W1 bitsLt_bf16_f32) (shapeCast S8x1x256 b1 shapeCasts_S8x256_S8x1x256) (truncf .bf16 W2 bitsLt_bf16_f32)
      (shapeCast S8x1x64 b2 shapeCasts_S8x64_S8x1x64) w h (at2 q (Fin.castLE (by decide) c))
      = outer xs W1 b1 W2 b2 (expert w h ⟨q.val / 2048, by omega⟩) q c := by
  refine (Ffn.rows_at (F := Ideal) xs _ _ _ _ w h ⟨q.val / 2048, by omega⟩
    (ix2 (⟨q.val % 2048, Nat.mod_lt _ (by decide)⟩ : Fin 2048) (Fin.castLE (m := 128) (n := 64) (by decide) c)) _ ?_ rfl).trans ?_
  · show q.val = q.val / 2048 * 2048 + q.val % 2048
    omega
  · exact tile_at xs W1 b1 W2 b2 _ _ _ c q (by show q.val = q.val / 2048 * 2048 + q.val % 2048; omega)

/-- The states. -/
abbrev gX : FVec Ideal Cert.KernelIdeal.S32768x64 .f32 := V0 (Proc.devRef .tc Cert.ReferenceIdeal.main_arg0)
/-- The first list. -/
abbrev gS1 : IVec S256x128 32 := V0 (Proc.devRef .tc Cert.ReferenceIdeal.main_arg3)
/-- The second list. -/
abbrev gS2 : IVec S256x128 32 := V0 (Proc.devRef .tc Cert.ReferenceIdeal.main_arg4)
/-- The first gates. -/
abbrev gG1 : FVec Ideal S32768x1 .f32 := V0 (Proc.devRef .tc Cert.ReferenceIdeal.main_arg5)
/-- The second gates. -/
abbrev gG2 : FVec Ideal S32768x1 .f32 := V0 (Proc.devRef .tc Cert.ReferenceIdeal.main_arg6)

/-- The kernel's rows from the reference's arguments. -/
abbrev made (h : Named (gWord V0)) : FVec Ideal S81920x128 .f32 :=
  rows (F := Ideal) (gXs V0) (truncf .bf16 (gW1 V0) bitsLt_bf16_f32) (shapeCast S8x1x256 (gB1 V0) shapeCasts_S8x256_S8x1x256)
    (truncf .bf16 (gW2 V0) bitsLt_bf16_f32) (shapeCast S8x1x64 (gB2 V0) shapeCasts_S8x64_S8x1x64) (gWord V0) h

/-- The row a list names for a token is the same on both sides. -/
theorem gathered (h : Named (gWord V0)) (fs : IVec S256x128 32) (hs : ∀ j, (fs j).toNat < 81920) (n : Fin 32768) (c : Fin 64) :
    taken (res_main_v298 V0) fs (at2 n c) = named (F := Ideal) (made V0 h) fs hs (at2 n (Fin.castLE (by decide) c)) := by
  rw [taken_at (res_main_v298 V0) fs hs n c]
  refine Eq.trans ?_ (rows_outer (gXs V0) (gW1 V0) (gB1 V0) (gW2 V0) (gB2 V0) (gWord V0) h (slot fs hs n) c).symm
  rw [at2_eq]
  refine ref_ys V0 _ _ c ?_
  have ea (t : Fin 40) : (at1 t : S40.Idx) = ix1 t := by funext a; match a with | 0 => rfl
  show _ = BitVec.ofNat 32 (gWord V0 (at1 ⟨(slot fs hs n).val / 2048, _⟩)).toNat
  rw [BitVec.ofNat_toNat, BitVec.setWidth_eq, ea]

/-- The reference's combination at an element. -/
theorem combined (x : FVec Ideal Cert.KernelIdeal.S32768x64 .f32) (y1 y2 : FVec Ideal Cert.KernelIdeal.S32768x64 .f32) (g1 g2 : FVec Ideal S32768x1 .f32) (n : Fin 32768) (c : Fin 64) :
    addf x (addf (mulf (broadcastInDim Cert.ReferenceIdeal.S32768x64 ![0, 1] Cert.ReferenceIdeal.Facts₀.bcast_S32768x1_S32768x64_0_1 g1) y1)
      (mulf (broadcastInDim Cert.ReferenceIdeal.S32768x64 ![0, 1] Cert.ReferenceIdeal.Facts₀.bcast_S32768x1_S32768x64_0_1 g2) y2)) (ix2 n c)
      = x (ix2 n c) + (g1 (ix2 n 0) * y1 (ix2 n c) + g2 (ix2 n 0) * y2 (ix2 n c)) := by
  pointwise

/-- The two programs' results agree. -/
theorem result_eq (h : Named (gWord V0)) (h1 : ∀ j, (gS1 V0 j).toNat < 81920) (h2 : ∀ j, (gS2 V0 j).toNat < 81920) :
    addf (gX V0) (addf (mulf (broadcastInDim Cert.ReferenceIdeal.S32768x64 ![0, 1] Cert.ReferenceIdeal.Facts₀.bcast_S32768x1_S32768x64_0_1 (gG1 V0)) (taken (res_main_v298 V0) (gS1 V0)))
      (mulf (broadcastInDim Cert.ReferenceIdeal.S32768x64 ![0, 1] Cert.ReferenceIdeal.Facts₀.bcast_S32768x1_S32768x64_0_1 (gG2 V0)) (taken (res_main_v298 V0) (gS2 V0))))
      = Combine.mix (F := Ideal) (n := 32768) (gX V0) (named (F := Ideal) (made V0 h) (gS1 V0) h1) (named (F := Ideal) (made V0 h) (gS2 V0) h2) (gG1 V0) (gG2 V0) := by
  funext y
  obtain ⟨n, c, rfl⟩ : ∃ (n : Fin 32768) (c : Fin 64), y = ix2 n c := ⟨y 0, y 1, eq_ix2 y⟩
  refine (combined _ _ _ _ _ n c).trans ?_
  have e1 := gathered V0 h (gS1 V0) h1 n c
  have e2 := gathered V0 h (gS2 V0) h2 n c
  rw [at2_eq n c] at e1 e2
  rw [e1, e2, ← at2_eq n (0 : Fin 1)]
  exact (add_assoc _ _ _).symm

/-- The kernel's result as a function of its arguments. -/
def total (x : FVec Ideal Cert.KernelIdeal.S32768x64 .f32) (xs : FVec Ideal S81920x128 .f32) (w : IVec S40 32) (fs ft : IVec S256x128 32)
    (g1 g2 : FVec Ideal S32768x1 .f32) (W1 : FVec Ideal S8x64x256 .f32) (b1 : FVec Ideal S8x256 .f32) (W2 : FVec Ideal S8x256x64 .f32)
    (b2 : FVec Ideal S8x64 .f32) (h : Named w) (h1 : ∀ j, (fs j).toNat < 81920) (h2 : ∀ j, (ft j).toNat < 81920) :
    FVec Ideal Cert.KernelIdeal.S32768x64 .f32 :=
  let ys := rows (F := Ideal) xs (truncf .bf16 W1 bitsLt_bf16_f32) (shapeCast S8x1x256 b1 shapeCasts_S8x256_S8x1x256)
    (truncf .bf16 W2 bitsLt_bf16_f32) (shapeCast S8x1x64 b2 shapeCasts_S8x64_S8x1x64) w h
  Combine.mix (F := Ideal) (n := 32768) x (named (F := Ideal) ys fs h1) (named (F := Ideal) ys ft h2) g1 g2

/-- Equal arguments have equal results, whatever shows their indices in range. -/
theorem total_congr {x x' : FVec Ideal Cert.KernelIdeal.S32768x64 .f32} {xs xs' : FVec Ideal S81920x128 .f32} {w w' : IVec S40 32} {fs fs' ft ft' : IVec S256x128 32}
    {g1 g1' g2 g2' : FVec Ideal S32768x1 .f32} {W1 W1' : FVec Ideal S8x64x256 .f32} {b1 b1' : FVec Ideal S8x256 .f32} {W2 W2' : FVec Ideal S8x256x64 .f32}
    {b2 b2' : FVec Ideal S8x64 .f32} {h : Named w} {h1 : ∀ j, (fs j).toNat < 81920} {h2 : ∀ j, (ft j).toNat < 81920}
    {h' : Named w'} {h1' : ∀ j, (fs' j).toNat < 81920} {h2' : ∀ j, (ft' j).toNat < 81920}
    (e : x = x' ∧ xs = xs' ∧ w = w' ∧ fs = fs' ∧ ft = ft' ∧ g1 = g1' ∧ g2 = g2' ∧ W1 = W1' ∧ b1 = b1' ∧ W2 = W2' ∧ b2 = b2') :
    total x xs w fs ft g1 g2 W1 b1 W2 b2 h h1 h2 = total x' xs' w' fs' ft' g1' g2' W1' b1' W2' b2' h' h1' h2' := by
  obtain ⟨rfl, rfl, rfl, rfl, rfl, rfl, rfl, rfl, rfl, rfl, rfl⟩ := e
  rfl

end

end Cert.Proof.Value

end
-- ==== Proof.lean ====
/-
  The certificate of the experts, the gather of their rows by the two slot lists, and the gated combination.
  `Proof.Streams` has the rules for batches of indirect streams, `Proof.Gather` and `Proof.Tile` what one tile of the
  gather does, `Proof.Tasks` the gather's whole call; `Proof.Ffn` and `Proof.Combine` the two grid calls around it and
  `Proof.Region` how a grid call enters the run; `Proof.Launch` the whole run, `Proof.Reference` and `Proof.Value` the
  reference and the equation. Here the claims are put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Pre_in_range
public import proofs.«01_k».proof.Proof.Gen.ReferenceIdeal
public import proofs.«01_k».proof.Proof.Gen.ReferenceIdeal.Run
public import proofs.«01_k».proof.Proof.Launch
public import proofs.«01_k».proof.Proof.Printed
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem
open Cert.KernelIdeal

/-- Every argument ends as it began, and every counter at zero. -/
theorem kept {F : FTy → Type} [FloatOps F] {m : (ℓ : Loc nD τ sig) → Buf (Elt F) ℓ} (ok : Launch.Ok m)
    (r : PUnit × MemSt nD τ sig (Elt F)) (h : Launch.QC ok r) :
    ∀ c : Dev nD, r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)
      ∧ r.2.mem ((SparseCore.T c).loc main_arg9) = m ((SparseCore.T c).loc main_arg9)
      ∧ r.2.mem ((SparseCore.T c).loc main_arg10) = m ((SparseCore.T c).loc main_arg10) :=
  fun c => ⟨(h.1 c main_arg0 (by decide)).trans (Launch.W3_arg ok c main_arg0 (by decide)),
    (h.1 c main_arg1 (by decide)).trans (Launch.W3_arg ok c main_arg1 (by decide)),
    (h.1 c main_arg2 (by decide)).trans (Launch.W3_arg ok c main_arg2 (by decide)),
    (h.1 c main_arg3 (by decide)).trans (Launch.W3_arg ok c main_arg3 (by decide)),
    (h.1 c main_arg4 (by decide)).trans (Launch.W3_arg ok c main_arg4 (by decide)),
    (h.1 c main_arg5 (by decide)).trans (Launch.W3_arg ok c main_arg5 (by decide)),
    (h.1 c main_arg6 (by decide)).trans (Launch.W3_arg ok c main_arg6 (by decide)),
    (h.1 c main_arg7 (by decide)).trans (Launch.W3_arg ok c main_arg7 (by decide)),
    (h.1 c main_arg8 (by decide)).trans (Launch.W3_arg ok c main_arg8 (by decide)),
    (h.1 c main_arg9 (by decide)).trans (Launch.W3_arg ok c main_arg9 (by decide)),
    (h.1 c main_arg10 (by decide)).trans (Launch.W3_arg ok c main_arg10 (by decide))⟩

/-- The printed program runs: it terminates, its arguments are unchanged and every counter ends at zero. -/
theorem frame_kernel : Cert.quiescent_Kernel := fun m ρ hpre =>
  Printed.printed (F := Bits) m ρ _ ((θ_run Cert.KernelIdeal.defs _ _).mono (fun r h => ⟨kept _ r h, h.2⟩)
    (Launch.run_main (F := Bits) ρ (Reference.ok_of_pre_bits m hpre)))

/-- The same program read over the reals runs. -/
theorem frame_ideal : Cert.quiescent_KernelIdeal := fun m ρ hpre =>
  (θ_run Cert.KernelIdeal.defs _ _).mono (fun r h => ⟨kept _ r h, h.2⟩)
    (Launch.run_main (F := Ideal) ρ (Reference.ok_of_pre m hpre))

/-- The reference runs; it declares no semaphore. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- What the kernel leaves in its result, from its arguments. -/
theorem left {m : (ℓ : Loc nD τ sig) → Buf (Elt Ideal) ℓ} (ok : Launch.Ok (F := Ideal) m) (c : Dev nD) :
    Launch.W3 ok c main_v6 = Value.total (m ((SparseCore.T c).loc main_arg0)) (m ((SparseCore.T c).loc main_arg1)) (m ((SparseCore.T c).loc main_arg2))
      (m ((SparseCore.T c).loc main_arg3)) (m ((SparseCore.T c).loc main_arg4)) (m ((SparseCore.T c).loc main_arg5)) (m ((SparseCore.T c).loc main_arg6))
      (m ((SparseCore.T c).loc main_arg7)) (m ((SparseCore.T c).loc main_arg8)) (m ((SparseCore.T c).loc main_arg9)) (m ((SparseCore.T c).loc main_arg10))
      (ok.1 c) (ok.2 c).1 (ok.2 c).2 := by
  rw [Launch.W3_out, Launch.made_eq]
  rfl

/-- The kernel's result is the reference's. -/
theorem algebraic : Cert.algebraic_KernelIdeal_ReferenceIdeal := by
  intro m ρ m' ρ' hpre hagree
  have ok := Reference.ok_of_pre m hpre
  refine ⟨fun c => Launch.W3 ok c main_v6, ?_, ?_⟩
  · exact (θ_run Cert.KernelIdeal.defs _ _).mono (fun r h c => ⟨h.1 c main_v6 (by decide), kept ok r h c⟩)
      (Launch.run_main (F := Ideal) ρ ok)
  · refine (θ_run Cert.ReferenceIdeal.defs _ _).mono (fun _ h c => ⟨((h c).1).trans ?_, (h c).2⟩)
      (Cert.ReferenceIdeal.Value.run (F := Ideal) m' ρ')
    have e := hagree c
    have h0 : Ffn.Named (m' ((c.tc : Thread _ Cert.ReferenceIdeal.τ).loc Cert.ReferenceIdeal.main_arg2)) := by rw [e.2.2.1]; exact ok.1 c
    have h1 : ∀ j, (m' ((c.tc : Thread _ Cert.ReferenceIdeal.τ).loc Cert.ReferenceIdeal.main_arg3) j).toNat < 81920 := by rw [e.2.2.2.1]; exact (ok.2 c).1
    have h2 : ∀ j, (m' ((c.tc : Thread _ Cert.ReferenceIdeal.τ).loc Cert.ReferenceIdeal.main_arg4) j).toNat < 81920 := by rw [e.2.2.2.2.1]; exact (ok.2 c).2
    refine Eq.trans ?_ (left ok c).symm
    refine Eq.trans ?_ (Value.total_congr (h := h0) (h1 := h1) (h2 := h2) e)
    exact Value.result_eq (StableHlo.launchContents m' c) h0 h1 h2

/-- The certificate's claim. -/
theorem claim : Cert.Claim :=
  ⟨Cert.Kernel.Gen.facts, Cert.KernelIdeal.Gen.facts, Cert.ReferenceIdeal.Gen.facts, Cert.Pre_in_range.Gen.facts,
    frame_kernel, frame_ideal, frame_ref, trivial, algebraic⟩

end Cert.Proof

end
